-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S1 : Shape := ⟨1, ![1]⟩
abbrev S512x2048 : Shape := ⟨2, ![512, 2048]⟩
abbrev S8x512x512 : Shape := ⟨3, ![8, 512, 512]⟩
abbrev S8 : Shape := ⟨1, ![8]⟩
abbrev S_ : Shape := ⟨0, ![]⟩
abbrev S1x512x512 : Shape := ⟨3, ![1, 512, 512]⟩
abbrev S512x512 : Shape := ⟨2, ![512, 512]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .i8⟩
  | .local _ .vmem, ⟨1, _⟩ => ⟨S4096x2048, .i8⟩
  | .local _ .vmem, ⟨2, _⟩ => ⟨S512x2048, .f32⟩
  | .local _ .vmem, ⟨3, _⟩ => ⟨S8x512x512, .i8⟩
  | .local _ .vmem, ⟨4, _⟩ => ⟨S512x2048, .i32⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c512_i32 : BitVec 32 := 512#32
  let v106 : BitVec 32 := Scalar.muli v105 c512_i32
  let c0_i32_78 : BitVec 32 := 0#32
  ![v106.toNat, 0]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_74 : BitVec 32 := 1#32
  let v107 : BitVec 32 := Scalar.muli v105 c1_i32_74
  let v108 : BitVec 32 := Scalar.addi c0_i32_75 v107
  v108.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_79 : BitVec 32 := 2#32
  let v116 : BitVec 32 := Scalar.addi v2 c2_i32_79
  let c8_i32_80 : BitVec 32 := 8#32
  let c0_i32_81 : BitVec 32 := 0#32
  let v117 : BitVec 1 := Scalar.cmpi .eq c8_i32_80 c0_i32_81
  let c1_i32_82 : BitVec 32 := 1#32
  let v118 : BitVec 32 := Scalar.select v117 c1_i32_82 c8_i32_80
  let v119 : BitVec 32 := Scalar.remsi v116 v118
  let c0_i32_84 : BitVec 32 := 0#32
  let v121 : BitVec 1 := Scalar.cmpi .slt v119 c0_i32_84
  let c0_i32_85 : BitVec 32 := 0#32
  let v122 : BitVec 1 := Scalar.cmpi .slt v118 c0_i32_85
  let v123 : BitVec 1 := Scalar.xori v121 v122
  let c0_i32_83 : BitVec 32 := 0#32
  let v120 : BitVec 1 := Scalar.cmpi .ne v119 c0_i32_83
  let v124 : BitVec 1 := Scalar.andi v123 v120
  let v125 : BitVec 32 := Scalar.addi v119 v118
  let v126 : BitVec 32 := Scalar.select v124 v125 v119
  let c1_i32_90 : BitVec 32 := 1#32
  let v128 : BitVec 32 := Scalar.muli v126 c1_i32_90
  let v129 : BitVec 32 := Scalar.addi c0_i32_91 v128
  v129.toNat
def k0_dev10 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_95 : BitVec 32 := 3#32
  let v137 : BitVec 32 := Scalar.addi v2 c3_i32_95
  let c8_i32_96 : BitVec 32 := 8#32
  let c0_i32_97 : BitVec 32 := 0#32
  let v138 : BitVec 1 := Scalar.cmpi .eq c8_i32_96 c0_i32_97
  let c1_i32_98 : BitVec 32 := 1#32
  let v139 : BitVec 32 := Scalar.select v138 c1_i32_98 c8_i32_96
  let v140 : BitVec 32 := Scalar.remsi v137 v139
  let c0_i32_100 : BitVec 32 := 0#32
  let v142 : BitVec 1 := Scalar.cmpi .slt v140 c0_i32_100
  let c0_i32_101 : BitVec 32 := 0#32
  let v143 : BitVec 1 := Scalar.cmpi .slt v139 c0_i32_101
  let v144 : BitVec 1 := Scalar.xori v142 v143
  let c0_i32_99 : BitVec 32 := 0#32
  let v141 : BitVec 1 := Scalar.cmpi .ne v140 c0_i32_99
  let v145 : BitVec 1 := Scalar.andi v144 v141
  let v146 : BitVec 32 := Scalar.addi v140 v139
  let v147 : BitVec 32 := Scalar.select v145 v146 v140
  let c1_i32_106 : BitVec 32 := 1#32
  let v149 : BitVec 32 := Scalar.muli v147 c1_i32_106
  let v150 : BitVec 32 := Scalar.addi c0_i32_107 v149
  v150.toNat
def k0_dev11 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_111 : BitVec 32 := 4#32
  let v158 : BitVec 32 := Scalar.addi v2 c4_i32_111
  let c8_i32_112 : BitVec 32 := 8#32
  let c0_i32_113 : BitVec 32 := 0#32
  let v159 : BitVec 1 := Scalar.cmpi .eq c8_i32_112 c0_i32_113
  let c1_i32_114 : BitVec 32 := 1#32
  let v160 : BitVec 32 := Scalar.select v159 c1_i32_114 c8_i32_112
  let v161 : BitVec 32 := Scalar.remsi v158 v160
  let c0_i32_116 : BitVec 32 := 0#32
  let v163 : BitVec 1 := Scalar.cmpi .slt v161 c0_i32_116
  let c0_i32_117 : BitVec 32 := 0#32
  let v164 : BitVec 1 := Scalar.cmpi .slt v160 c0_i32_117
  let v165 : BitVec 1 := Scalar.xori v163 v164
  let c0_i32_115 : BitVec 32 := 0#32
  let v162 : BitVec 1 := Scalar.cmpi .ne v161 c0_i32_115
  let v166 : BitVec 1 := Scalar.andi v165 v162
  let v167 : BitVec 32 := Scalar.addi v161 v160
  let v168 : BitVec 32 := Scalar.select v166 v167 v161
  let c1_i32_122 : BitVec 32 := 1#32
  let v170 : BitVec 32 := Scalar.muli v168 c1_i32_122
  let v171 : BitVec 32 := Scalar.addi c0_i32_123 v170
  v171.toNat
def k0_dev12 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_127 : BitVec 32 := 5#32
  let v179 : BitVec 32 := Scalar.addi v2 c5_i32_127
  let c8_i32_128 : BitVec 32 := 8#32
  let c0_i32_129 : BitVec 32 := 0#32
  let v180 : BitVec 1 := Scalar.cmpi .eq c8_i32_128 c0_i32_129
  let c1_i32_130 : BitVec 32 := 1#32
  let v181 : BitVec 32 := Scalar.select v180 c1_i32_130 c8_i32_128
  let v182 : BitVec 32 := Scalar.remsi v179 v181
  let c0_i32_132 : BitVec 32 := 0#32
  let v184 : BitVec 1 := Scalar.cmpi .slt v182 c0_i32_132
  let c0_i32_133 : BitVec 32 := 0#32
  let v185 : BitVec 1 := Scalar.cmpi .slt v181 c0_i32_133
  let v186 : BitVec 1 := Scalar.xori v184 v185
  let c0_i32_131 : BitVec 32 := 0#32
  let v183 : BitVec 1 := Scalar.cmpi .ne v182 c0_i32_131
  let v187 : BitVec 1 := Scalar.andi v186 v183
  let v188 : BitVec 32 := Scalar.addi v182 v181
  let v189 : BitVec 32 := Scalar.select v187 v188 v182
  let c1_i32_138 : BitVec 32 := 1#32
  let v191 : BitVec 32 := Scalar.muli v189 c1_i32_138
  let v192 : BitVec 32 := Scalar.addi c0_i32_139 v191
  v192.toNat
def k0_dev13 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_143 : BitVec 32 := 6#32
  let v200 : BitVec 32 := Scalar.addi v2 c6_i32_143
  let c8_i32_144 : BitVec 32 := 8#32
  let c0_i32_145 : BitVec 32 := 0#32
  let v201 : BitVec 1 := Scalar.cmpi .eq c8_i32_144 c0_i32_145
  let c1_i32_146 : BitVec 32 := 1#32
  let v202 : BitVec 32 := Scalar.select v201 c1_i32_146 c8_i32_144
  let v203 : BitVec 32 := Scalar.remsi v200 v202
  let c0_i32_148 : BitVec 32 := 0#32
  let v205 : BitVec 1 := Scalar.cmpi .slt v203 c0_i32_148
  let c0_i32_149 : BitVec 32 := 0#32
  let v206 : BitVec 1 := Scalar.cmpi .slt v202 c0_i32_149
  let v207 : BitVec 1 := Scalar.xori v205 v206
  let c0_i32_147 : BitVec 32 := 0#32
  let v204 : BitVec 1 := Scalar.cmpi .ne v203 c0_i32_147
  let v208 : BitVec 1 := Scalar.andi v207 v204
  let v209 : BitVec 32 := Scalar.addi v203 v202
  let v210 : BitVec 32 := Scalar.select v208 v209 v203
  let c1_i32_154 : BitVec 32 := 1#32
  let v212 : BitVec 32 := Scalar.muli v210 c1_i32_154
  let v213 : BitVec 32 := Scalar.addi c0_i32_155 v212
  v213.toNat
def k0_dev14 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_159 : BitVec 32 := 7#32
  let v221 : BitVec 32 := Scalar.addi v2 c7_i32_159
  let c8_i32_160 : BitVec 32 := 8#32
  let c0_i32_161 : BitVec 32 := 0#32
  let v222 : BitVec 1 := Scalar.cmpi .eq c8_i32_160 c0_i32_161
  let c1_i32_162 : BitVec 32 := 1#32
  let v223 : BitVec 32 := Scalar.select v222 c1_i32_162 c8_i32_160
  let v224 : BitVec 32 := Scalar.remsi v221 v223
  let c0_i32_164 : BitVec 32 := 0#32
  let v226 : BitVec 1 := Scalar.cmpi .slt v224 c0_i32_164
  let c0_i32_165 : BitVec 32 := 0#32
  let v227 : BitVec 1 := Scalar.cmpi .slt v223 c0_i32_165
  let v228 : BitVec 1 := Scalar.xori v226 v227
  let c0_i32_163 : BitVec 32 := 0#32
  let v225 : BitVec 1 := Scalar.cmpi .ne v224 c0_i32_163
  let v229 : BitVec 1 := Scalar.andi v228 v225
  let v230 : BitVec 32 := Scalar.addi v224 v223
  let v231 : BitVec 32 := Scalar.select v229 v230 v224
  let c1_i32_170 : BitVec 32 := 1#32
  let v233 : BitVec 32 := Scalar.muli v231 c1_i32_170
  let v234 : BitVec 32 := Scalar.addi c0_i32_171 v233
  v234.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_175 : BitVec 32 := 512#32
  let v242 : BitVec 32 := Scalar.muli v2 c512_i32_175
  let v243 : Index := Scalar.indexCast v242
  let c0 : Index := 0#32
  ![v243.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_176 : BitVec 32 := 512#32
  let v246 : BitVec 32 := Scalar.muli v2 c512_i32_176
  let v247 : Index := Scalar.indexCast v246
  let c0_177 : Index := 0#32
  ![v247.toNat, 0]
def k0_off4 (d0 : Dev nD) (c1_i32_190 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v262 : BitVec 32 := Scalar.subi v2 c1_i32_190
  let c8_i32_191 : BitVec 32 := 8#32
  let c0_i32_192 : BitVec 32 := 0#32
  let v263 : BitVec 1 := Scalar.cmpi .eq c8_i32_191 c0_i32_192
  let c1_i32_193 : BitVec 32 := 1#32
  let v264 : BitVec 32 := Scalar.select v263 c1_i32_193 c8_i32_191
  let v265 : BitVec 32 := Scalar.remsi v262 v264
  let c0_i32_195 : BitVec 32 := 0#32
  let v267 : BitVec 1 := Scalar.cmpi .slt v265 c0_i32_195
  let c0_i32_196 : BitVec 32 := 0#32
  let v268 : BitVec 1 := Scalar.cmpi .slt v264 c0_i32_196
  let v269 : BitVec 1 := Scalar.xori v267 v268
  let c0_i32_194 : BitVec 32 := 0#32
  let v266 : BitVec 1 := Scalar.cmpi .ne v265 c0_i32_194
  let v270 : BitVec 1 := Scalar.andi v269 v266
  let v271 : BitVec 32 := Scalar.addi v265 v264
  let v272 : BitVec 32 := Scalar.select v270 v271 v265
  let c512_i32_199 : BitVec 32 := 512#32
  let v275 : BitVec 32 := Scalar.muli v272 c512_i32_199
  let v276 : Index := Scalar.indexCast v275
  let c0_200 : Index := 0#32
  ![v276.toNat, 0]
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Protocol.lean ====
/-
# The protocol of the eight devices

Every device `c` owns the rows of a matrix cut into eight slabs. It sends slab `c + k` to the device
`c + k`, for every offset `k ≠ 0`, where it lands in slot `k`. This module fixes what the proof of
the run speaks about: the slabs and slots, the semaphores (`cell`), which payment each of them
expects and what the payment carries (`plan`), what a device owes at launch (`dueBar`, `dueIn`) and
the order in which waits are allowed (`rank`).
-/
module

public import proofs.«01_k».proof.Proof.Gen.Kernel.Skeleton
public import proofs.«01_k».proof.Proof.Gen.Kernel.Launch
public import Idealize.ShloMosaic.Lib.Pipeline.Launch
public import Idealize.ShloMosaic.Lib.Pipeline.Kit
public import Idealize.ShloMosaic.Lib.Tactic

@[expose] public section

noncomputable section

namespace Cert.Kernel.Swap

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state -/

/-- The exchange's own ghost state, whose duties are named by offsets. -/
abbrev UX : Type := URounds (GSem nD τ sig) (Fin 8)
/-- The staging pipeline's ghost state and the exchange's. -/
abbrev UU : Type := UR sig nD τ × UX

local notation "𝕄" => MT nD τ sig Unit (Elt F) ℕ UU ℕ

/-- Where the pipeline's ghost state lies. -/
abbrev EP : Emb (UR sig nD τ) (MT nD τ sig Unit (Elt F) ℕ UU ℕ) := embL
/-- Where the exchange's ghost state lies. -/
abbrev EX : Emb UX (MT nD τ sig Unit (Elt F) ℕ UU ℕ) := embR

variable (m : (ℓ : Loc nD τ sig) → Buf (Elt F) ℓ)

/-! ## Addresses computed by the kernel, in closed form -/

/-- The device `k` places after `c` on the ring of eight. -/
abbrev fwd (c : Dev nD) (k : Fin 8) : Dev nD := (c + k : Fin 8)
/-- The device `k` places before `c`. -/
abbrev bwd (c : Dev nD) (k : Fin 8) : Dev nD := (c - k : Fin 8)

/-- Going forward and back by the same offset ends where it began. -/
theorem bwd_fwd (c : Dev nD) (k : Fin 8) : bwd (fwd c k) k = c := by revert c k; decide
/-- Going back and forward by the same offset ends where it began. -/
theorem fwd_bwd (c : Dev nD) (k : Fin 8) : fwd (bwd c k) k = c := by revert c k; decide
/-- Going forward by an offset and by its negative ends where it began. -/
theorem fwd_neg (c : Dev nD) (k : Fin 8) : fwd (fwd c k) (-k) = c := by revert c k; decide

/-- The device that the first signal addresses. -/
theorem dev1_eq (c : Dev nD) : (⟨k0_dev1 c, k0_dev1_lt c⟩ : Dev nD) = fwd c 1 := by revert c; decide +kernel
/-- The device that the second signal addresses. -/
theorem dev2_eq (c : Dev nD) : (⟨k0_dev2 c, k0_dev2_lt c⟩ : Dev nD) = fwd c 2 := by revert c; decide +kernel
/-- The device that the third signal addresses. -/
theorem dev3_eq (c : Dev nD) : (⟨k0_dev3 c, k0_dev3_lt c⟩ : Dev nD) = fwd c 3 := by revert c; decide +kernel
/-- The device that the fourth signal addresses. -/
theorem dev4_eq (c : Dev nD) : (⟨k0_dev4 c, k0_dev4_lt c⟩ : Dev nD) = fwd c 4 := by revert c; decide +kernel
/-- The device that the fifth signal addresses. -/
theorem dev5_eq (c : Dev nD) : (⟨k0_dev5 c, k0_dev5_lt c⟩ : Dev nD) = fwd c 5 := by revert c; decide +kernel
/-- The device that the sixth signal addresses. -/
theorem dev6_eq (c : Dev nD) : (⟨k0_dev6 c, k0_dev6_lt c⟩ : Dev nD) = fwd c 6 := by revert c; decide +kernel
/-- The device that the seventh signal addresses. -/
theorem dev7_eq (c : Dev nD) : (⟨k0_dev7 c, k0_dev7_lt c⟩ : Dev nD) = fwd c 7 := by revert c; decide +kernel
/-- The device that the first copy addresses. -/
theorem dev8_eq (c : Dev nD) : (⟨k0_dev8 c, k0_dev8_lt c⟩ : Dev nD) = fwd c 1 := by revert c; decide +kernel
/-- The device that the second copy addresses. -/
theorem dev9_eq (c : Dev nD) : (⟨k0_dev9 c, k0_dev9_lt c⟩ : Dev nD) = fwd c 2 := by revert c; decide +kernel
/-- The device that the third copy addresses. -/
theorem dev10_eq (c : Dev nD) : (⟨k0_dev10 c, k0_dev10_lt c⟩ : Dev nD) = fwd c 3 := by revert c; decide +kernel
/-- The device that the fourth copy addresses. -/
theorem dev11_eq (c : Dev nD) : (⟨k0_dev11 c, k0_dev11_lt c⟩ : Dev nD) = fwd c 4 := by revert c; decide +kernel
/-- The device that the fifth copy addresses. -/
theorem dev12_eq (c : Dev nD) : (⟨k0_dev12 c, k0_dev12_lt c⟩ : Dev nD) = fwd c 5 := by revert c; decide +kernel
/-- The device that the sixth copy addresses. -/
theorem dev13_eq (c : Dev nD) : (⟨k0_dev13 c, k0_dev13_lt c⟩ : Dev nD) = fwd c 6 := by revert c; decide +kernel
/-- The device that the seventh copy addresses. -/
theorem dev14_eq (c : Dev nD) : (⟨k0_dev14 c, k0_dev14_lt c⟩ : Dev nD) = fwd c 7 := by revert c; decide +kernel

/-- The row at which the slab sent at offset `k` begins. -/
theorem off1_eq (c : Dev nD) (k : Fin 8) (hk : k ≠ 0) :
    k0_off1 c (BitVec.ofNat 32 k.val) = ![512 * (fwd c k).val, 0] := by revert c k; decide +kernel
/-- The row at which the weights of the slab received at offset `k` begin. -/
theorem off4_eq (c : Dev nD) (k : Fin 8) (hk : k ≠ 0) :
    k0_off4 c (BitVec.ofNat 32 k.val) = ![512 * (bwd c k).val, 0] := by revert c k; decide +kernel

/-! ## Buffers, slabs and slots -/

/-- The device's block of `x`, in the kernel. -/
abbrev xM : Memref sig .tc .vmem S4096x512 .i8 := Memref.whole cc0_stg0_0
/-- The weights. -/
abbrev wM : Memref sig .tc .vmem S4096x2048 .i8 := Memref.whole cc0_stg1_0
/-- The scale of `x`. -/
abbrev sxM : Memref sig .tc .smem S1 .f32 := Memref.whole cc0_stg2_0
/-- The scale of the weights. -/
abbrev swM : Memref sig .tc .smem S1 .f32 := Memref.whole cc0_stg3_0
/-- The device's rows of the result. -/
abbrev oM : Memref sig .tc .vmem S512x2048 .f32 := Memref.whole cc0_stg4_0
/-- The receive buffer. -/
abbrev cM : Memref sig .tc .vmem S8x512x512 .i8 := Memref.whole cc0_scratch0
/-- The buffer through which the first product passes. -/
abbrev pM : Memref sig .tc .vmem S512x2048 .i32 := Memref.whole cc0_scratch1

/-- Slab `o` lies inside the device's block of `x`. -/
theorem slab_inb (o : Fin 8) : ∀ a, (![512 * o.val, 0] : Fin 2 → Nat) a + S512x512.size a ≤ S4096x512.size a := by
  revert o; decide +kernel
/-- Slot `k` lies inside the receive buffer. -/
theorem slot_inb (k : Fin 8) : ∀ a, (![k.val, 0, 0] : Fin 3 → Nat) a + S1x512x512.size a ≤ S8x512x512.size a := by
  revert k; decide +kernel

/-- Rows `512 o … 512 o + 511`. -/
abbrev slabR (o : Fin 8) : Rect S4096x512 := Rect.unit (s := S4096x512) ![512 * o.val, 0] S512x512.size (slab_inb o)
/-- Slot `k`. -/
abbrev slotR (k : Fin 8) : Rect S8x512x512 := Rect.unit (s := S8x512x512) ![k.val, 0, 0] S1x512x512.size (slot_inb k)

/-- Slab `o` of the device's block of `x`. -/
abbrev slab (o : Fin 8) : Memref sig .tc .vmem S512x512 .i8 := xM.slice (slabR o) (fun _ => rfl)
/-- Slot `k` of the receive buffer. -/
abbrev slot (k : Fin 8) : Memref sig .tc .vmem S512x512 .i8 :=
  (cM.slice (slotR k) (fun _ => rfl)).squeeze S512x512 squeezes_S1x512x512_S512x512

/-- What one slab counts for on a semaphore. -/
abbrev N : ℕ := (slot 0).view.dmaCredit
/-- A slab counts for something. -/
theorem N_pos : 0 < N := View.dmaCredit_pos _ (by decide)
/-- Every slot counts for the same. -/
theorem slot_credit (k : Fin 8) : (slot k).view.dmaCredit = N := rfl
/-- Every slab counts for the same. -/
theorem slab_credit (o : Fin 8) : (slab o).view.dmaCredit = N := rfl

/-! ## Semaphores -/

/-- The barrier semaphore. -/
abbrev barS : Sem sig := (SemArray.scalar (sig.barrier 0 rfl) : Sems sig S_).sem
/-- The semaphore that counts the departure of the slab sent at offset `k`. -/
abbrev outS (k : Fin 8) : DmaSem sig := (⟨5 + k.val, by have := k.isLt; omega⟩ : Fin 21)
/-- The semaphore that counts the arrival of the slab received at offset `k`. -/
abbrev inS (k : Fin 8) : DmaSem sig := (⟨13 + k.val, by have := k.isLt; omega⟩ : Fin 21)

/-- A device's semaphores: the barrier, the eight departures, the eight arrivals. -/
abbrev CK : Type := Unit ⊕ (Fin 8 ⊕ Fin 8)

/-- The semaphores scoped to the launch. -/
abbrev ownSem : Fin 8 ⊕ Fin 8 → SemLoc sig
  | .inl k => .dma (outS k)
  | .inr k => .dma (inS k)
/-- All of a device's semaphores. -/
abbrev allSem : CK → SemLoc sig
  | .inl _ => .reg barS
  | .inr j => ownSem j

/-- Which of a device's semaphores a location is, if any. -/
def which : SemLoc sig → Option CK
  | .reg _ => some (.inl ())
  | .dma q => if h : 5 ≤ q.val ∧ q.val < 13 then some (.inr (.inl ⟨q.val - 5, by omega⟩))
      else if h : 13 ≤ q.val ∧ q.val < 21 then some (.inr (.inr ⟨q.val - 13, by omega⟩)) else none

/-- A location knows which semaphore it is. -/
theorem which_allSem (j : CK) : which (allSem j) = some j := by
  rcases j with u | k | k
  · rfl
  · show dite _ _ _ = _
    have := k.isLt
    rw [dif_pos (show 5 ≤ (outS k).val ∧ (outS k).val < 13 by simp only [outS]; omega)]
    congr 3; exact Fin.ext (by simp only [outS]; omega)
  · show dite _ _ _ = _
    have := k.isLt
    rw [dif_neg (show ¬ (5 ≤ (inS k).val ∧ (inS k).val < 13) by simp only [inS]; omega),
      dif_pos (show 13 ≤ (inS k).val ∧ (inS k).val < 21 by simp only [inS]; omega)]
    congr 3; exact Fin.ext (by simp only [inS]; omega)

/-- Distinct names stand for distinct semaphores. -/
theorem allSem_inj : Function.Injective allSem := fun a b h =>
  Option.some.inj ((which_allSem a).symm.trans ((congrArg which h).trans (which_allSem b)))

/-- The semaphore `p.2` of device `p.1`. -/
abbrev cell (p : Dev nD × CK) : GSem nD τ sig := ((p.1 : Thread nD τ), allSem p.2)
/-- The barrier semaphore of device `c`. -/
abbrev barC (c : Dev nD) : GSem nD τ sig := cell (c, .inl ())
/-- The semaphore that the copy out of device `c` at offset `k` pays. -/
abbrev outC (c : Dev nD) (k : Fin 8) : GSem nD τ sig := cell (c, .inr (.inl k))
/-- The semaphore that the copy into slot `k` of device `c` pays. -/
abbrev inC (c : Dev nD) (k : Fin 8) : GSem nD τ sig := cell (c, .inr (.inr k))

/-- Distinct names on distinct devices stand for distinct semaphores. -/
theorem cell_inj : Function.Injective cell := fun a b h =>
  Prod.ext (congrArg (fun g : GSem nD τ sig => g.1.1) h) (allSem_inj (congrArg Prod.snd h))

/-! ## Contents -/

/-- The block of `x` that device `c` holds. -/
def xAt (c : Dev nD) : (cc0_stg0_0 : Ref sig .tc).ty.Contents (Elt F) :=
  (win0_0.blk (0 : Fin 1)).view.read (Elt F) (m ((c : Thread nD τ).loc main_arg0))
/-- The weights. -/
def wAt (c : Dev nD) : (cc0_stg1_0 : Ref sig .tc).ty.Contents (Elt F) :=
  (win0_1.blk (0 : Fin 1)).view.read (Elt F) (m ((c : Thread nD τ).loc main_arg1))
/-- The scale of `x`. -/
def sxAt (c : Dev nD) : (cc0_stg2_0 : Ref sig .tc).ty.Contents (Elt F) :=
  (win0_2.blk (0 : Fin 1)).view.read (Elt F) (m ((c : Thread nD τ).loc main_arg2))
/-- The scale of the weights. -/
def swAt (c : Dev nD) : (cc0_stg3_0 : Ref sig .tc).ty.Contents (Elt F) :=
  (win0_3.blk (0 : Fin 1)).view.read (Elt F) (m ((c : Thread nD τ).loc main_arg3))

/-- Slab `o` of the block that device `d` holds. -/
def slabOf (d : Dev nD) (o : Fin 8) : S512x512.Idx → Elt F .i8 := (slab o).view.read (Elt F) (xAt m d)

/-- Device `c` holds slab `o` of its block. -/
def slabP (c : Dev nD) (o : Fin 8) : sProp 𝕄 :=
  (slab o).view.loc (c : Thread nD τ) ↦[(slab o).view.set]{fullShare} xAt m c
/-- Device `c` holds its slot `k`, at the contents `f` of the whole receive buffer. -/
def slotP (c : Dev nD) (k : Fin 8) (f : Buf (Elt F) ((slot k).view.loc (c : Thread nD τ))) : sProp 𝕄 :=
  (slot k).view.loc (c : Thread nD τ) ↦[(slot k).view.set]{fullShare} f
/-- Device `c` holds its slot `k`, whatever lies in it. -/
def slotAny (c : Dev nD) (k : Fin 8) : sProp 𝕄 := iprop(∃ f, slotP c k f)
/-- Device `c` holds its slot `k`, and in it lies slab `c` of the device `k` places before. -/
def slotFull (c : Dev nD) (k : Fin 8) : sProp 𝕄 :=
  iprop(∃ f, ⌜(slot k).view.read (Elt F) f = slabOf m (bwd c k) c⌝ ∗ slotP c k f)

omit [FloatOps F] in
/-- Holding a slab can be put into an invariant. -/
instance slabP_storable (c : Dev nD) (o : Fin 8) : BI.Storable (upEmb : UEmb _ 𝕄) (slabP (F := F) m c o) := by
  unfold slabP; infer_instance
omit [FloatOps F] in
/-- So can holding a slot, whatever lies in it, -/
instance slotAny_storable (c : Dev nD) (k : Fin 8) : BI.Storable (upEmb : UEmb _ 𝕄) (slotAny (F := F) c k) := by
  unfold slotAny slotP; infer_instance
omit [FloatOps F] in
/-- and holding a slot that a slab has reached. -/
instance slotFull_storable (c : Dev nD) (k : Fin 8) : BI.Storable (upEmb : UEmb _ 𝕄) (slotFull (F := F) m c k) := by
  unfold slotFull slotP; infer_instance

/-! ## The plan of payments -/

/-- The offsets at which devices exchange slabs. -/
abbrev offs : Finset (Fin 8) := Finset.univ.erase 0

/-- Who pays a semaphore: the barrier, one payer for each offset; an arrival or departure at an offset
    other than 0, one payer; anything else, nobody. -/
def payers : Option CK → Finset (Fin 8)
  | some (.inl _) => offs
  | some (.inr (.inl k)) => if k = 0 then ∅ else {0}
  | some (.inr (.inr k)) => if k = 0 then ∅ else {0}
  | none => ∅

/-- What a payment counts. -/
def worth : Option CK → ℕ
  | some (.inl _) => 1
  | _ => N

/-- What a payment carries. The barrier's payer at offset `j` is the device `j` places after the owner,
    and lends its slot `j`; a departure returns the slab sent; an arrival brings the slot with the slab in it. -/
def carried (c : Dev nD) (j : Fin 8) : Option CK → sProp 𝕄
  | some (.inl _) => slotAny (fwd c j) j
  | some (.inr (.inl k)) => slabP m c (fwd c k)
  | some (.inr (.inr k)) => slotFull m c k
  | none => iprop(emp)

/-- The plan: everything is paid in one round. -/
def plan : Rounds.Schedule (GSem nD τ sig) (Fin 8) 𝕄 where
  duties g r := if r = 0 ∧ g.1.2 = .tc then payers (which g.2) else ∅
  unitless _ := False
  amount g _ _ := worth (which g.2)
  payload g _ d := carried m g.1.1 d (which g.2)
  amount_pos g _ _ _ := by
    show 0 < worth (which g.2)
    unfold worth; split
    · exact Nat.one_pos
    · exact N_pos

/-- Whatever a payment carries can be put into an invariant. -/
instance plan_storable (g : GSem nD τ sig) (r : ℕ) (d : Fin 8) :
    BI.Storable (upEmb : UEmb _ 𝕄) ((plan (F := F) m).payload g r d) := by
  show BI.Storable upEmb (carried m g.1.1 d (which g.2))
  unfold carried; split <;> infer_instance

/-- The payers of a named semaphore. -/
theorem duties_cell (p : Dev nD × CK) : (plan (F := F) m).duties (cell p) 0 = payers (some p.2) := by
  show (if 0 = 0 ∧ (cell p).1.2 = .tc then payers (which (cell p).2) else ∅) = _
  rw [if_pos ⟨rfl, rfl⟩, which_allSem]
/-- What a payment to a named semaphore counts. -/
theorem amount_cell (p : Dev nD × CK) (d : Fin 8) : (plan (F := F) m).amount (cell p) 0 d = worth (some p.2) := by
  show worth (which (cell p).2) = _
  rw [which_allSem]
/-- What a payment to a named semaphore carries. -/
theorem payload_cell (p : Dev nD × CK) (d : Fin 8) :
    (plan (F := F) m).payload (cell p) 0 d = carried m p.1 d (some p.2) := by
  show carried m (cell p).1.1 d (which (cell p).2) = _
  rw [which_allSem]
/-- After the one round nothing is paid. -/
theorem duties_later (g : GSem nD τ sig) : ∀ r, 1 ≤ r → (plan (F := F) m).duties g r = ∅ := fun r hr =>
  if_neg fun h => by omega
/-- A semaphore of offset 0 is never paid. -/
theorem duties_idle (c : Dev nD) (j : Fin 8 ⊕ Fin 8) (hj : j = .inl 0 ∨ j = .inr 0) :
    ∀ r, 0 ≤ r → (plan (F := F) m).duties (cell (c, .inr j)) r = ∅ := fun r _ => by
  rcases Nat.eq_zero_or_pos r with rfl | hr
  · rw [duties_cell]; rcases hj with rfl | rfl <;> rfl
  · exact duties_later m _ r hr

/-- A barrier expects seven signals. -/
theorem expect_bar (c : Dev nD) : (plan (F := F) m).expect (barC c) 0 = 7 := by
  unfold Schedule.expect Schedule.amountOf
  rw [duties_cell, Finset.sum_congr rfl fun d _ => amount_cell m (c, .inl ()) d]
  rfl
/-- A departure expects one slab. -/
theorem expect_out (c : Dev nD) (k : Fin 8) (hk : k ≠ 0) : (plan (F := F) m).expect (outC c k) 0 = N := by
  unfold Schedule.expect Schedule.amountOf
  rw [duties_cell, Finset.sum_congr rfl fun d _ => amount_cell m (c, .inr (.inl k)) d]
  simp only [payers, if_neg hk, Finset.sum_singleton, worth]
/-- An arrival expects one slab. -/
theorem expect_in (c : Dev nD) (k : Fin 8) (hk : k ≠ 0) : (plan (F := F) m).expect (inC c k) 0 = N := by
  unfold Schedule.expect Schedule.amountOf
  rw [duties_cell, Finset.sum_congr rfl fun d _ => amount_cell m (c, .inr (.inr k)) d]
  simp only [payers, if_neg hk, Finset.sum_singleton, worth]

/-- All that the barrier brings: every other device's slot. -/
theorem rest_bar (c : Dev nD) :
    bigSep ((plan (F := F) m).duties (barC c) 0 \ ∅) (fun d => (plan (F := F) m).payload (barC c) 0 d)
      = bigSep offs fun j => slotAny (fwd c j) j := by
  rw [Finset.sdiff_empty, duties_cell]
  exact bigSep_congr fun j _ => payload_cell m (c, .inl ()) j
/-- All that a departure brings: the slab sent. -/
theorem rest_out (c : Dev nD) (k : Fin 8) (hk : k ≠ 0) :
    bigSep ((plan (F := F) m).duties (outC c k) 0 \ ∅) (fun d => (plan (F := F) m).payload (outC c k) 0 d)
      = slabP m c (fwd c k) := by
  rw [Finset.sdiff_empty, duties_cell]
  simp only [payers, if_neg hk, bigSep_singleton, payload_cell, carried]
/-- All that an arrival brings: the slot with the slab in it. -/
theorem rest_in (c : Dev nD) (k : Fin 8) (hk : k ≠ 0) :
    bigSep ((plan (F := F) m).duties (inC c k) 0 \ ∅) (fun d => (plan (F := F) m).payload (inC c k) 0 d)
      = slotFull m c k := by
  rw [Finset.sdiff_empty, duties_cell]
  simp only [payers, if_neg hk, bigSep_singleton, payload_cell, carried]

/-! ## What is owed, and the order of waits -/

/-- The offsets in the order of the kernel's loops. -/
abbrev order : List (Fin 8) := [1, 2, 3, 4, 5, 6, 7]

/-- The slabs that device `c` still owes at the offsets listed. -/
def dueIn (c : Dev nD) : List (Fin 8) → CellTallies nD τ sig Unit
  | [] => 0
  | k :: l => dueIn c l + tallyAt (inC (fwd c k) k) () N
/-- The signals that device `c` still owes at the offsets listed, and all of its slabs. -/
def dueBar (c : Dev nD) : List (Fin 8) → CellTallies nD τ sig Unit
  | [] => dueIn c order
  | k :: l => dueBar c l + tallyAt (barC (fwd c k)) () 1

/-- Waits are recorded on TensorCores only. -/
def L (g : GSem nD τ sig) : Finset Unit := if g.1.2 = .tc then {()} else ∅
/-- The barrier comes before the arrivals, and everything else before the barrier. -/
def rankOf : Option CK → ℕ
  | some (.inl _) => 1
  | some (.inr (.inr _)) => 2
  | _ => 0
/-- A semaphore's rank. -/
def rank (g : GSem nD τ sig) (_ : Unit) : ℕ := rankOf (which g.2)

/-- The rank of a named semaphore. -/
theorem rank_cell (p : Dev nD × CK) : rank (cell p) () = rankOf (some p.2) :=
  congrArg rankOf (which_allSem p.2)
/-- A barrier has rank 1. -/
theorem rank_bar (c : Dev nD) (u : Unit) : rank (barC c) u = 1 := rank_cell (c, .inl ())
/-- An arrival has rank 2. -/
theorem rank_in (c : Dev nD) (k : Fin 8) (u : Unit) : rank (inC c k) u = 2 := rank_cell (c, .inr (.inr k))

/-- Only the tensor core's semaphores have a level. -/
theorem L_of_ne (g : GSem nD τ sig) (h : g.1.2 ≠ .tc) : L g = ∅ := if_neg h
/-- They have one each. -/
theorem L_tc (c : Dev nD) (sm : SemLoc sig) : L ((c : Thread nD τ), sm) = {()} := if_pos rfl

/-- Slabs are owed to arrival semaphores only. -/
theorem dueIn_pos {c : Dev nD} {l : List (Fin 8)} {g : GSem nD τ sig} {u : Unit} (h : 0 < dueIn c l g u) :
    ∃ k, g = inC (fwd c k) k := by
  induction l with
  | nil => exact absurd h (Nat.lt_irrefl 0)
  | cons k l ih =>
    rw [dueIn, Pi.add_apply, Finsupp.add_apply, tallyAt_apply] at h
    by_cases hg : g = inC (fwd c k) k ∧ u = ()
    · exact ⟨k, hg.1⟩
    · rw [if_neg hg, Nat.add_zero] at h; exact ih h
/-- Everything owed is owed to a barrier or to an arrival semaphore. -/
theorem dueBar_pos {c : Dev nD} {l : List (Fin 8)} {g : GSem nD τ sig} {u : Unit} (h : 0 < dueBar c l g u) :
    (∃ k, g = barC (fwd c k)) ∨ ∃ k, g = inC (fwd c k) k := by
  induction l with
  | nil => exact .inr (dueIn_pos h)
  | cons k l ih =>
    rw [dueBar, Pi.add_apply, Finsupp.add_apply, tallyAt_apply] at h
    by_cases hg : g = barC (fwd c k) ∧ u = ()
    · exact .inl ⟨k, hg.1⟩
    · rw [if_neg hg, Nat.add_zero] at h; exact ih h

/-- A staging wait is allowed, whatever the exchange still owes. -/
theorem mayWait_stage (c : Dev nD) (q : DmaSem sig) (hq : rank ((c : Thread nD τ), .dma q) () = 0)
    (O : CellTallies nD τ sig Unit) (hO : O = dueBar c order ∨ O = 0) :
    (levAts L rank : sProp 𝕄) ⊢ MayWait (c : Thread nD τ) (.dma q) () O := by
  rcases hO with rfl | rfl
  · refine MayOwe.of_cut (L := L) (lev := rank) 0
      (fun p hp => by rw [Finset.mem_singleton.mp hp, L_tc]; exact Finset.mem_singleton_self _)
      (fun g u hg => by rcases dueBar_pos hg with ⟨k, rfl⟩ | ⟨k, rfl⟩ <;> exact Finset.mem_singleton_self _)
      (fun p hp => by rw [Finset.mem_singleton.mp hp]; exact le_of_eq hq)
      (fun g u hg => by
        rcases dueBar_pos hg with ⟨k, rfl⟩ | ⟨k, rfl⟩ <;>
          · first | rw [rank_bar] | rw [rank_in]
            exact Nat.succ_pos _)
  · rw [MayWait_zero]; iintro -; iempintro

/-- The barrier wait is allowed while only slabs are owed. -/
theorem mayWait_bar (c : Dev nD) (l : List (Fin 8)) :
    (levAts L rank : sProp 𝕄) ⊢ MayWait (c : Thread nD τ) (.reg barS) () (dueIn c l) :=
  MayOwe.of_cut (L := L) (lev := rank) 1
    (fun p hp => by rw [Finset.mem_singleton.mp hp, L_tc]; exact Finset.mem_singleton_self _)
    (fun g u hg => by obtain ⟨k, rfl⟩ := dueIn_pos hg; exact Finset.mem_singleton_self _)
    (fun p hp => by rw [Finset.mem_singleton.mp hp]; exact le_of_eq rfl)
    (fun g u hg => by
      obtain ⟨k, rfl⟩ := dueIn_pos hg
      rw [rank_in]; exact Nat.lt_succ_self 1)

end Cert.Kernel.Swap
-- ==== Proof.Steps.lean ====
/-
# The steps of the exchange

Each kind of step that the kernel repeats — a signal, the barrier wait, a send, the wait for an
arrival, the wait for a departure, the loads — is stated here once, for every device and every
offset. The module also cuts the two buffers into slabs and slots and joins them again.
-/
module

public import proofs.«01_k».proof.Proof.Protocol
public import Idealize.ShloMosaic.Lib.Ring
public import Idealize.ShloMosaic.Lib.Pipeline.Value

@[expose] public section

noncomputable section

namespace Cert.Kernel.Swap

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cutting and joining the buffers -/

/-- The elements of a slot are those of its rectangle. -/
theorem slot_set (k : Fin 8) : (slot k).view.set = (slotR k).set :=
  (View.set_reshape _ _).trans (View.set_slice_whole _ _)
/-- The elements of a slab are those of its rectangle. -/
theorem slab_set (o : Fin 8) : (slab o).view.set = (slabR o).set := View.set_slice_whole _ _

/-- A row belongs to a slab when it lies in the slab's range. -/
theorem mem_slab (o : Fin 8) (i : S4096x512.Idx) :
    i ∈ (slabR o).set ↔ 512 * o.val ≤ (i 0).val ∧ (i 0).val < 512 * o.val + 512 := by
  have h1 := (i 1).isLt
  rw [Rect.mem_set_unit]
  refine ⟨fun h => h 0, fun h a => ?_⟩
  match a with
  | 0 => exact h
  | 1 => exact ⟨Nat.zero_le _, by simpa using h1⟩
/-- An element belongs to the slot that its first coordinate names. -/
theorem mem_slot (k : Fin 8) (i : S8x512x512.Idx) : i ∈ (slotR k).set ↔ k.val = (i 0).val := by
  have h1 := (i 1).isLt
  have h2 := (i 2).isLt
  rw [Rect.mem_set_unit]
  refine ⟨fun h => ?_, fun h a => ?_⟩
  · have := h 0
    have h' : k.val ≤ (i 0).val ∧ (i 0).val < k.val + 1 := this
    omega
  · match a with
    | 0 => exact ⟨le_of_eq h, by show (i 0).val < k.val + 1; omega⟩
    | 1 => exact ⟨Nat.zero_le _, by simpa using h1⟩
    | 2 => exact ⟨Nat.zero_le _, by simpa using h2⟩

/-- Distinct slabs have no row in common. -/
theorem slabs_apart (a b : Fin 8) (h : a ≠ b) : Disjoint (slabR a).set (slabR b).set := by
  refine Finset.disjoint_left.2 fun i ha hb => h (Fin.ext ?_)
  have := (mem_slab a i).1 ha; have := (mem_slab b i).1 hb; omega
/-- Every row lies in a slab. -/
theorem slabs_cover : (Finset.univ.biUnion fun o : Fin 8 => (slabR o).set) = Finset.univ := by
  refine Finset.eq_univ_of_forall fun i => ?_
  have hi : (i 0).val < 4096 := (i 0).isLt
  refine Finset.mem_biUnion.2 ⟨⟨(i 0).val / 512, by omega⟩, Finset.mem_univ _, ?_⟩
  exact (mem_slab _ i).2 ⟨by show 512 * ((i 0).val / 512) ≤ _; omega, by show _ < 512 * ((i 0).val / 512) + 512; omega⟩
/-- Distinct slots have no element in common. -/
theorem slots_apart (a b : Fin 8) (h : a ≠ b) : Disjoint (slotR a).set (slotR b).set := by
  refine Finset.disjoint_left.2 fun i ha hb => h (Fin.ext ?_)
  exact ((mem_slot a i).1 ha).trans ((mem_slot b i).1 hb).symm
/-- Every element lies in a slot. -/
theorem slots_cover : (Finset.univ.biUnion fun k : Fin 8 => (slotR k).set) = Finset.univ := by
  refine Finset.eq_univ_of_forall fun i => Finset.mem_biUnion.2 ⟨(i 0 : Fin 8), Finset.mem_univ _, ?_⟩
  exact (mem_slot _ i).2 rfl

/-- A slab, spoken of as elements of the block. -/
theorem slabP_eq (c : Dev nD) (o : Fin 8) :
    (slabP m c o : sProp 𝕄) = (((c : Thread nD τ).loc cc0_stg0_0) ↦[(slabR o).set]{fullShare} xAt m c) := by
  unfold slabP; rw [slab_set]
/-- A slot, spoken of as elements of the receive buffer. -/
theorem slotP_eq (c : Dev nD) (k : Fin 8) (f : Buf (Elt F) ((c : Thread nD τ).loc cc0_scratch0)) :
    (slotP c k f : sProp 𝕄) = (((c : Thread nD τ).loc cc0_scratch0) ↦[(slotR k).set]{fullShare} f) := by
  unfold slotP; rw [slot_set]

/-- The block of `x` is its eight slabs. -/
theorem slabs_split (c : Dev nD) :
    ((((c : Thread nD τ).loc cc0_stg0_0) ↦{fullShare} xAt m c) : sProp 𝕄) = bigSep Finset.univ fun o => slabP m c o := by
  rw [funext fun o => slabP_eq m c o]
  exact Ring.pointsTo_blocks (ℓ := (c : Thread nD τ).loc cc0_stg0_0) (fun o : Fin 8 => (slabR o).set) slabs_apart slabs_cover (xAt m c)
/-- The receive buffer is its eight slots. -/
theorem slots_split (c : Dev nD) (f : Buf (Elt F) ((c : Thread nD τ).loc cc0_scratch0)) :
    ((((c : Thread nD τ).loc cc0_scratch0) ↦{fullShare} f) : sProp 𝕄) = bigSep Finset.univ fun k => slotP c k f := by
  rw [funext fun k => slotP_eq c k f]
  exact Ring.pointsTo_blocks (ℓ := (c : Thread nD τ).loc cc0_scratch0) (fun k : Fin 8 => (slotR k).set) slots_apart slots_cover f
/-- Eight slots, whatever lies in them, make up the receive buffer. -/
theorem slots_join (c : Dev nD) (f₀ : Buf (Elt F) ((c : Thread nD τ).loc cc0_scratch0)) :
    bigSep Finset.univ (fun k => slotAny c k) ⊢ (iprop(∃ f : Buf (Elt F) ((c : Thread nD τ).loc cc0_scratch0),
      ((c : Thread nD τ).loc cc0_scratch0) ↦{fullShare} f) : sProp 𝕄) := by
  unfold slotAny
  simp only [slotP_eq]
  exact Ring.pointsTo_blocks_join_exists (ℓ := (c : Thread nD τ).loc cc0_scratch0) (fun k : Fin 8 => (slotR k).set) slots_apart slots_cover f₀

/-- A slot with a slab in it is a slot. -/
theorem slotFull_any (c : Dev nD) (k : Fin 8) : (slotFull m c k : sProp 𝕄) ⊢ slotAny c k := by
  unfold slotFull slotAny
  iintro ⟨%f, -, H⟩; iexists f; iexact H

/-! ## What every device knows -/

/-- The invariant of every semaphore, and that every semaphore has begun its round. -/
def records (K : Dev nD × CK → ℕ) : sProp 𝕄 :=
  iprop(bigSep Finset.univ (fun p => cellInv EX (plan m) (K p) (cell p))
    ∗ bigSep Finset.univ (fun p : Dev nD × CK => reached EX (cell p) 0))

/-- What everyone knows can be used again and again. -/
instance records_persistent (K : Dev nD × CK → ℕ) : BI.Persistent (records (F := F) m K) := by
  unfold records
  infer_instance

/-- One semaphore's invariant. -/
theorem records_inv (K : Dev nD × CK → ℕ) (p : Dev nD × CK) :
    (records m K : sProp 𝕄) ⊢ cellInv EX (plan m) (K p) (cell p) := by
  unfold records
  exact BI.Laws.sep_elim_left.trans (BI.bigSep_elim (i := p) (Finset.mem_univ p))
/-- One semaphore's round has begun. -/
theorem records_reached (K : Dev nD × CK → ℕ) (p : Dev nD × CK) :
    (records m K : sProp 𝕄) ⊢ reached EX (cell p) 0 := by
  unfold records
  exact BI.Laws.sep_elim_right.trans (BI.bigSep_elim (i := p) (Finset.mem_univ p))

/-- Device `c` owes `O`, whatever it has waited for. -/
def owing (c : Dev nD) (O : CellTallies nD τ sig Unit) : sProp 𝕄 := iprop(∃ W, owes (c : Thread nD τ) O W)

/-- The negative of an offset is an offset. -/
theorem neg_offs (k : Fin 8) (hk : k ≠ 0) : -k ∈ offs := by revert k; decide

/-! ## The steps -/

/-- No loop needs a measure. -/
abbrev 𝒱₀ : Variants := Variants.none

/-- What device `c` needs for its signal at offset `k`: the payment's token and the slot it lends. -/
def sigKit (c : Dev nD) (k : Fin 8) : sProp 𝕄 := iprop(dutyTok EX (barC (fwd c k)) 0 (-k) ∗ slotAny c (-k))
/-- What device `c` needs of its own for its send at offset `k`: the slab and the two payments' tokens. -/
def sendKit (c : Dev nD) (k : Fin 8) : sProp 𝕄 :=
  iprop(slabP m c (fwd c k) ∗ dutyTok EX (outC c k) 0 0 ∗ dutyTok EX (inC (fwd c k) k) 0 0)
/-- What device `c` needs for its wait for the arrival at offset `k`. -/
def inKit (c : Dev nD) (k : Fin 8) : sProp 𝕄 := iprop(cred (tallyAt (inC c k) () N) ∗ atPos EX (inC c k) 0 ∅ 0)
/-- What device `c` needs for its wait for the departure at offset `k`. -/
def outKit (c : Dev nD) (k : Fin 8) : sProp 𝕄 := iprop(cred (tallyAt (outC c k) () N) ∗ atPos EX (outC c k) 0 ∅ 0)

section Steps

variable (K : Dev nD × CK → ℕ) {α : Type} {Q : α → sProp (MT nD τ sig Unit (Elt F) ℕ UU ℕ)}

/-- A signal at offset `k` pays the barrier of the device `k` places after. -/
theorem step_signal (c : Dev nD) (k : Fin 8) (hk : k ≠ 0) (l : List (Fin 8)) {n : Dev nD} (hn : n = fwd c k) {w : ℕ} (hw : w = 1)
    {q : Sem sig} (hq : q = barS)
    {P : PUnit → Prog (TpuEff nD τ sig (Elt F) Λ₀ .tc) α} :
    iprop(records m K ∗ owing c (dueBar c (k :: l)) ∗ sigKit c k)
      ⊢ iprop((owing c (dueBar c l) -∗ wp frame (wpE (defs₀ (F := F)) 𝒱₀ (c : Thread nD τ) none) Set.univ (P ⟨⟩) Q)
          -∗ wp frame (wpE (defs₀ (F := F)) 𝒱₀ (c : Thread nD τ) none) Set.univ
            (.op (.semSignal (n, .tc) q w) P) Q) := by
  subst hn hw hq
  unfold owing sigKit
  iintro ⟨#HR, ⟨%W, HO⟩, Ht, Hs⟩ Hk
  iapply (Rounds.wp_signal 𝒱₀ EX (plan m) (c : Thread nD τ) none (dst := (fwd c k : Thread nD τ)) (κ := K (fwd c k, .inl ()))
      (r := 0) (d := -k)
      (by show -k ∈ (plan m).duties (cell (fwd c k, .inl ())) 0
          rw [duties_cell m (fwd c k, .inl ())]
          exact neg_offs k hk)
      (amount_cell m (fwd c k, .inl ()) (-k)) () (dueBar c l) rfl (W := W)) $$ [HO Ht Hs]
  · isplitr; · iapply (records_inv m K (fwd c k, .inl ())) $$ HR
    isplitl [HO]; · iexact HO
    isplitl [Ht]; · iexact Ht
    isplitl [Hs]
    · iapply (Entails.of_eq (show (slotAny c (-k) : sProp 𝕄) = (plan m).payload (cell (fwd c k, .inl ())) 0 (-k) by
        rw [payload_cell]; show _ = slotAny (fwd (fwd c k) (-k)) (-k); rw [fwd_neg])) $$ Hs
    iapply (records_reached m K (fwd c k, .inl ())) $$ HR
  iintro HO
  iapply Hk
  iexists W; iexact HO

/-- The barrier wait brings the slots that the other devices lend, and the barrier closes. -/
theorem step_barrier (c : Dev nD) {w : ℕ} (hw : w = 7) {q : Sem sig} (hq : q = barS)
    {P : PUnit → Prog (TpuEff nD τ sig (Elt F) Λ₀ .tc) α} :
    iprop(records m K ∗ owing c (dueBar c []) ∗ levAts L rank ∗ cred (tallyAt (barC c) () 7) ∗ atPos EX (barC c) 0 ∅ 0)
      ⊢ iprop(((owing c (dueIn c order) ∗ semVal (barC c) 0 ∗ bigSep offs fun j => slotAny (fwd c j) j)
            -∗ wp frame (wpE (defs₀ (F := F)) 𝒱₀ (c : Thread nD τ) none) Set.univ (P ⟨⟩) Q)
          -∗ wp frame (wpE (defs₀ (F := F)) 𝒱₀ (c : Thread nD τ) none) Set.univ (.op (.semWait q w) P) Q) := by
  subst hw hq
  unfold owing
  iintro ⟨#HR, ⟨%W, HO⟩, #Hlev, Hc, Hat⟩ Hk
  iapply (Rounds.wp_wait_rest_token 𝒱₀ EX (plan m) (c : Thread nD τ) none (κ := K (c, .inl ()))
      (wpE_semWait_eq 𝒱₀ (c : Thread nD τ) none Set.univ) (Set.mem_univ _) () (O := dueIn c order) (W := W) (R := 0) (m := 0) (T := ∅)
      ((Nat.zero_add 7).trans (expect_bar m c).symm)) $$ [Hc HO Hat]
  · isplitr; · iapply (records_inv m K (c, .inl ())) $$ HR
    isplitl [Hc]; · iexact Hc
    isplitl [HO]; · iexact HO
    isplitr; · iapply (mayWait_bar c order); iexact Hlev
    iexact Hat
  iintro ⟨HO, Hat, -, Hpay⟩
  ihave Hp := (Entails.of_eq (rest_bar m c)) $$ Hpay
  imod (Rounds.cell_close EX (plan m) (Set.mem_univ (K (c, .inl ()))) (fun h => h) (R := 0 + 1) (duties_later m (barC c))) $$ [Hat] with Hz
  · isplitr; · iapply (records_inv m K (c, .inl ())) $$ HR
    iexact Hat
  iapply Hk
  isplitl [HO]; · iexists _; iexact HO
  isplitl [Hz]; · iexact Hz
  iexact Hp

/-- A send at offset `k`: the slab leaves for the lent slot of the device `k` places after. -/
theorem step_send (c : Dev nD) (k : Fin 8) (hk : k ≠ 0) (l : List (Fin 8)) {n : Dev nD} (hn : n = fwd c k)
    {src : Memref sig .tc .vmem S512x512 .i8} (hs : src = slab (fwd c k))
    {dst : Memref sig .tc .vmem S512x512 .i8} (hd : dst = slot k)
    {qo qi : DmaSem sig} (hqo : qo = outS k) (hqi : qi = inS k)
    {hsc : dst.view.ref.isScScratch = false} {hsrc : src.view.WordExact} {hdst : dst.view.WordExact}
    {hsem : DmaTarget.Typed _ (.dma qi) (.remote (Dev.tc n : Thread nD τ) dst (.dma qo) hsc)}
    {P : PUnit → Prog (TpuEff nD τ sig (Elt F) Λ₀ .tc) α} :
    iprop(records m K ∗ owing c (dueIn c (k :: l)) ∗ slotAny (fwd c k) k ∗ sendKit m c k)
      ⊢ iprop(((owing c (dueIn c l) ∗ cred (tallyAt (outC c k) () N))
            -∗ wp frame (wpE (defs₀ (F := F)) 𝒱₀ (c : Thread nD τ) none) Set.univ (P ⟨⟩) Q)
          -∗ wp frame (wpE (defs₀ (F := F)) 𝒱₀ (c : Thread nD τ) none) Set.univ
            (.op (.enqueueDma src (.remote (Dev.tc n : Thread nD τ) dst (.dma qo) hsc) (.dma qi) hsrc hdst hsem) P) Q) := by
  subst hn hs hd hqo hqi
  unfold owing sendKit slotAny
  iintro ⟨#HR, ⟨%W, HO⟩, ⟨%f, Hslot⟩, Hslab, Hto, Hti⟩ Hk
  iapply (Rounds.wp_send_pointsTo 𝒱₀ EX (plan m) (c : Thread nD τ) none (κ₁ := K (c, .inr (.inl k))) (κ₂ := K (fwd c k, .inr (.inr k)))
    (r₁ := 0) (r₂ := 0) (d₁ := 0) (d₂ := 0) (fs := xAt m c) (fd := f) (q := fullShare)
    (by show 0 ∈ (plan m).duties (cell (c, .inr (.inl k))) 0
        rw [duties_cell m (c, .inr (.inl k))]
        simp only [payers, if_neg hk, Finset.mem_singleton])
    (by show 0 ∈ (plan m).duties (cell (fwd c k, .inr (.inr k))) 0
        rw [duties_cell m (fwd c k, .inr (.inr k))]
        simp only [payers, if_neg hk, Finset.mem_singleton])
    () () N rfl (amount_cell m (c, .inr (.inl k)) 0) (amount_cell m (fwd c k, .inr (.inr k)) 0) (dueIn c l) rfl (W := W)
    (by show _ ⊢ (plan m).payload (cell (c, .inr (.inl k))) 0 0
        rw [payload_cell m (c, .inr (.inl k))]
        exact BI.Entails.refl _)
    (by show _ ⊢ (plan m).payload (cell (fwd c k, .inr (.inr k))) 0 0
        rw [payload_cell m (fwd c k, .inr (.inr k))]
        show _ ⊢ slotFull m (fwd c k) k
        unfold slotFull
        iintro H
        iexists ((slot k).view.write (Elt F) f ((slab (fwd c k)).view.read (Elt F) (xAt m c)) Finset.univ)
        isplitr
        · ipureintro
          rw [bwd_fwd]; exact View.read_write_univ _ _
        unfold slotP; iexact H))
    $$ [HO Hslot Hslab Hto Hti]
  · isplitr; · iapply (records_inv m K (c, .inr (.inl k))) $$ HR
    isplitr; · iapply (records_inv m K (fwd c k, .inr (.inr k))) $$ HR
    isplitl [Hslab]; · unfold slabP; iexact Hslab
    isplitl [Hslot]; · unfold slotP; iexact Hslot
    isplitl [HO]; · iexact HO
    isplitl [Hto]; · iexact Hto
    isplitr; · iapply (records_reached m K (c, .inr (.inl k))) $$ HR
    isplitl [Hti]; · iexact Hti
    iapply (records_reached m K (fwd c k, .inr (.inr k))) $$ HR
  iintro ⟨Hc, HO⟩
  iapply Hk
  isplitl [HO]; · iexists W; iexact HO
  iexact Hc

/-- The wait for the arrival at offset `k` brings the slot with the slab in it, and the semaphore closes. -/
theorem step_arrive (c : Dev nD) (k : Fin 8) (hk : k ≠ 0) {q : DmaSem sig} (hq : q = inS k)
    {sp sp' : Space} {s s' : Shape} {e e' : EltTy} {src : Memref sig .tc sp' s' e'} {dst : Memref sig .tc sp s e}
    (hd : dst.view.dmaCredit = N) {h₁ : src.view.WordExact} {h₂ : dst.view.WordExact}
    {P : PUnit → Prog (TpuEff nD τ sig (Elt F) Λ₀ .tc) α} :
    iprop(records m K ∗ owing c 0 ∗ inKit c k)
      ⊢ iprop(((owing c 0 ∗ semVal (inC c k) 0 ∗ slotFull m c k)
            -∗ wp frame (wpE (defs₀ (F := F)) 𝒱₀ (c : Thread nD τ) none) Set.univ (P ⟨⟩) Q)
          -∗ wp frame (wpE (defs₀ (F := F)) 𝒱₀ (c : Thread nD τ) none) Set.univ (.op (.waitDma2 q src dst h₁ h₂) P) Q) := by
  subst hq
  unfold owing inKit
  iintro ⟨#HR, ⟨%W, HO⟩, Hc, Hat⟩ Hk
  iapply (Rounds.wp_wait_rest_token 𝒱₀ EX (plan m) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add, hd]; exact (expect_in m c k hk).symm)) $$ [Hc HO Hat]
  · isplitr; · iapply (records_inv m K (c, .inr (.inr k))) $$ HR
    isplitl [Hc]; · rw [hd]; iexact Hc
    isplitl [HO]; · iexact HO
    isplitr; · rw [MayWait_zero]; iempintro
    iexact Hat
  iintro ⟨HO, Hat, -, Hpay⟩
  ihave Hp := (Entails.of_eq (rest_in m c k hk)) $$ Hpay
  imod (Rounds.cell_close EX (plan m) (Set.mem_univ (K (c, .inr (.inr k)))) (fun h => h) (R := 0 + 1) (duties_later m (inC c k))) $$ [Hat] with Hz
  · isplitr; · iapply (records_inv m K (c, .inr (.inr k))) $$ HR
    iexact Hat
  iapply Hk
  isplitl [HO]; · iexists _; iexact HO
  isplitl [Hz]; · iexact Hz
  iexact Hp

/-- The wait for the departure at offset `k` returns the slab, and the semaphore closes. -/
theorem step_depart (c : Dev nD) (k : Fin 8) (hk : k ≠ 0) {q : DmaSem sig} (hq : q = outS k)
    {sp sp' : Space} {s s' : Shape} {e e' : EltTy} {src : Memref sig .tc sp' s' e'} {dst : Memref sig .tc sp s e}
    (hd : dst.view.dmaCredit = N) {h₁ : src.view.WordExact} {h₂ : dst.view.WordExact}
    {P : PUnit → Prog (TpuEff nD τ sig (Elt F) Λ₀ .tc) α} :
    iprop(records m K ∗ owing c 0 ∗ outKit c k)
      ⊢ iprop(((owing c 0 ∗ semVal (outC c k) 0 ∗ slabP m c (fwd c k))
            -∗ wp frame (wpE (defs₀ (F := F)) 𝒱₀ (c : Thread nD τ) none) Set.univ (P ⟨⟩) Q)
          -∗ wp frame (wpE (defs₀ (F := F)) 𝒱₀ (c : Thread nD τ) none) Set.univ (.op (.waitDma2 q src dst h₁ h₂) P) Q) := by
  subst hq
  unfold owing outKit
  iintro ⟨#HR, ⟨%W, HO⟩, Hc, Hat⟩ Hk
  iapply (Rounds.wp_wait_rest_token 𝒱₀ EX (plan m) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, hd]; exact (expect_out m c k hk).symm)) $$ [Hc HO Hat]
  · isplitr; · iapply (records_inv m K (c, .inr (.inl k))) $$ HR
    isplitl [Hc]; · rw [hd]; iexact Hc
    isplitl [HO]; · iexact HO
    isplitr; · rw [MayWait_zero]; iempintro
    iexact Hat
  iintro ⟨HO, Hat, -, Hpay⟩
  ihave Hp := (Entails.of_eq (rest_out m c k hk)) $$ Hpay
  imod (Rounds.cell_close EX (plan m) (Set.mem_univ (K (c, .inr (.inl k)))) (fun h => h) (R := 0 + 1) (duties_later m (outC c k))) $$ [Hat] with Hz
  · isplitr; · iapply (records_inv m K (c, .inr (.inl k))) $$ HR
    iexact Hat
  iapply Hk
  isplitl [HO]; · iexists _; iexact HO
  isplitl [Hz]; · iexact Hz
  iexact Hp

/-- A semaphore of offset 0, never paid, closes at once. -/
theorem close_idle (c : Dev nD) (j : Fin 8 ⊕ Fin 8) (hj : j = .inl 0 ∨ j = .inr 0) :
    iprop(records m K ∗ atPos EX (cell (c, .inr j)) 0 ∅ 0) ⊢ iprop(|={Set.univ}=> semVal (cell (c, .inr j)) 0 : sProp 𝕄) := by
  iintro ⟨#HR, Hat⟩
  iapply (Rounds.cell_close EX (plan m) (Set.mem_univ (K (c, .inr j))) (fun h => h) (R := 0) (duties_idle m c j hj))
  isplitr; · iapply (records_inv m K (c, .inr j)) $$ HR
  iexact Hat

/-! ## The loads -/

/-- The rows of the weights that slab `o` is multiplied with lie inside the weights. -/
theorem rows_inb (o : Fin 8) : ∀ a, (![512 * o.val, 0] : Fin 2 → Nat) a + S512x2048.size a ≤ S4096x2048.size a := by
  revert o; decide +kernel
/-- The rows of the weights that slab `o` is multiplied with. -/
def rowsOf (c : Dev nD) (o : Fin 8) : Vec F S512x2048 .i8 :=
  (wM.access (Rect.unit (s := S4096x2048) ![512 * o.val, 0] S512x2048.size (rows_inb o))).read (Elt F) (wAt m c)
/-- What device `c` loads from slot `k`. -/
def landed (c : Dev nD) (k : Fin 8) : Vec F S1x512x512 .i8 := shapeCast S1x512x512 (slabOf m (bwd c k) c)

/-- Device `c` holds the weights. -/
def wP (c : Dev nD) : sProp 𝕄 := ((c : Thread nD τ).loc cc0_stg1_0) ↦{fullShare} wAt m c

/-- Loading a slab's rows of the weights. -/
theorem step_loadW (c : Dev nD) (o : Fin 8) {off : Fin 2 → Nat} (ho : off = ![512 * o.val, 0])
    {inb : ∀ a, off a + S512x2048.size a ≤ S4096x2048.size a}
    {hl : wM.view.LoadsAt (Rect.unit (s := S4096x2048) off S512x2048.size inb).toLoadRect}
    {P : (S512x2048.Idx → Elt F .i8) → Prog (TpuEff nD τ sig (Elt F) Λ₀ .tc) α} :
    wP m c ⊢ iprop((wP m c -∗ wp frame (wpE (defs₀ (F := F)) 𝒱₀ (c : Thread nD τ) none) Set.univ (P (rowsOf m c o)) Q)
      -∗ wp frame (wpE (defs₀ (F := F)) 𝒱₀ (c : Thread nD τ) none) Set.univ
        (.op (.load wM (Rect.unit (s := S4096x2048) off S512x2048.size inb).toLoadRect hl) P) Q) := by
  subst ho
  exact wp_load 𝒱₀ (c : Thread nD τ) none Set.univ (m := wM) (Finset.subset_univ _)

/-- Loading a slab of the device's own block. -/
theorem step_loadX (c : Dev nD) (o : Fin 8) {off : Fin 2 → Nat} (ho : off = ![512 * o.val, 0])
    {inb : ∀ a, off a + S512x512.size a ≤ S4096x512.size a}
    {hl : xM.view.LoadsAt (Rect.unit (s := S4096x512) off S512x512.size inb).toLoadRect}
    {P : (S512x512.Idx → Elt F .i8) → Prog (TpuEff nD τ sig (Elt F) Λ₀ .tc) α} :
    slabP m c o ⊢ iprop((slabP m c o -∗ wp frame (wpE (defs₀ (F := F)) 𝒱₀ (c : Thread nD τ) none) Set.univ (P (slabOf m c o)) Q)
      -∗ wp frame (wpE (defs₀ (F := F)) 𝒱₀ (c : Thread nD τ) none) Set.univ
        (.op (.load xM (Rect.unit (s := S4096x512) off S512x512.size inb).toLoadRect hl) P) Q) := by
  subst ho
  exact wp_load_rect 𝒱₀ (c : Thread nD τ) none Set.univ (m := xM) (Finset.Subset.refl _)

/-- Loading a slot that holds a slab. -/
theorem step_loadSlot (c : Dev nD) (k : Fin 8) {off : Fin 3 → Nat} (ho : off = ![k.val, 0, 0])
    {inb : ∀ a, off a + S1x512x512.size a ≤ S8x512x512.size a}
    {hl : cM.view.LoadsAt (Rect.unit (s := S8x512x512) off S1x512x512.size inb).toLoadRect}
    {P : (S1x512x512.Idx → Elt F .i8) → Prog (TpuEff nD τ sig (Elt F) Λ₀ .tc) α} :
    slotFull m c k ⊢ iprop((slotFull m c k -∗ wp frame (wpE (defs₀ (F := F)) 𝒱₀ (c : Thread nD τ) none) Set.univ (P (landed m c k)) Q)
      -∗ wp frame (wpE (defs₀ (F := F)) 𝒱₀ (c : Thread nD τ) none) Set.univ
        (.op (.load cM (Rect.unit (s := S8x512x512) off S1x512x512.size inb).toLoadRect hl) P) Q) := by
  subst ho
  iintro H Hk
  unfold slotFull
  icases H with ⟨%f, %hf, H⟩
  unfold slotP
  have hset : (cM.access (slotR k)).set ⊆ (slot k).view.set := by
    rw [slot_set]; exact le_of_eq (View.set_slice_whole _ _)
  iapply (wp_load_rect 𝒱₀ (c : Thread nD τ) none Set.univ (m := cM) (r := slotR k) (f := f) hset) $$ H
  iintro H
  have hread : (cM.access (slotR k)).read (Elt F) f = landed m c k := by
    have h' : shapeCast S512x512 ((cM.access (slotR k)).read (Elt F) f) squeezes_S1x512x512_S512x512.numel_eq = slabOf m (bwd c k) c := hf
    unfold landed
    rw [← h', shapeCast_shapeCast]
  rw [hread]
  iapply Hk
  iexists f
  isplitr; · ipureintro; exact hf
  iexact H

end Steps

end Cert.Kernel.Swap
-- ==== Proof.Parts.lean ====
/-
# The parts of the kernel

The kernel's program is cut into consecutive parts. Each theorem here runs one part: from the state
the device is in before it to the state after it, whatever program follows.
-/
module

public import proofs.«01_k».proof.Proof.Steps
public import Idealize.ShloMosaic.Lib.Pipeline.BigSepL

@[expose] public section

noncomputable section

namespace Cert.Kernel.Swap

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Running a program on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A part of the kernel at the kernel's own buffers. -/
abbrev onBufs {β : Type 1} (f : (arg0 : Memref sig .tc .vmem S4096x512 .i8) → arg0.IsWhole → (arg1 : Memref sig .tc .vmem S4096x2048 .i8) → arg1.IsWhole
    → (arg2 : Memref sig .tc .smem S1 .f32) → arg2.IsWhole → (arg3 : Memref sig .tc .smem S1 .f32) → arg3.IsWhole
    → (arg4 : Memref sig .tc .vmem S512x2048 .f32) → arg4.IsWhole → (arg5 : Memref sig .tc .vmem S8x512x512 .i8) → arg5.IsWhole
    → (arg6 : Memref sig .tc .vmem S512x2048 .i32) → arg6.IsWhole → DmaSems sig S8 → DmaSems sig S8 → β) : β :=
  f xM (Memref.isWhole_whole _) wM (Memref.isWhole_whole _) sxM (Memref.isWhole_whole _) swM (Memref.isWhole_whole _)
    oM (Memref.isWhole_whole _) cM (Memref.isWhole_whole _) pM (Memref.isWhole_whole _) cc0_scratch2 cc0_scratch3

/-! ## What a device holds on the way -/

/-- Before the barrier wait, with the signals at the offsets listed still to come. -/
def signalling (c : Dev nD) (l : List (Fin 8)) : sProp 𝕄 := iprop(owing c (dueBar c l) ∗ bigSepL l (sigKit c))
/-- After the barrier wait, with the sends at the offsets listed still to come. -/
def sending (c : Dev nD) (l : List (Fin 8)) : sProp 𝕄 :=
  iprop(owing c (dueIn c l) ∗ bigSepL l fun k => iprop(slotAny (fwd c k) k ∗ sendKit m c k ∗ atPos EX (outC c k) 0 ∅ 0))
/-- After the sends, with the arrivals at the offsets listed still to be waited for. -/
def arriving (c : Dev nD) (l : List (Fin 8)) : sProp 𝕄 := iprop(owing c 0 ∗ bigSepL l (inKit c))

/-- Slab `o`, addressed by its offset in rows. -/
theorem slab_at {o : Fin 8} {off : Fin 2 → Nat} (h : off = ![512 * o.val, 0]) (inb : ∀ a, off a + S512x512.size a ≤ S4096x512.size a)
    (hu : ∀ a, (Rect.unit (s := S4096x512) off S512x512.size inb).stride a = 1) :
    xM.slice (Rect.unit (s := S4096x512) off S512x512.size inb) hu = slab o := by subst h; rfl

variable (K : Dev nD × CK → ℕ) {α : Type} {Q : α → sProp (MT nD τ sig Unit (Elt F) ℕ UU ℕ)}

/-- The next signal. -/
theorem next_signal (c : Dev nD) (k : Fin 8) (hk : k ≠ 0) (l : List (Fin 8)) {n : Dev nD} (hn : n = fwd c k) {w : ℕ} (hw : w = 1)
    {q : Sem sig} (hq : q = barS) {P : PUnit → Prog (TpuEff nD τ sig (Elt F) Λ₀ .tc) α} :
    iprop(records m K ∗ signalling c (k :: l))
      ⊢ iprop((signalling c l -∗ run c (P ⟨⟩) Q) -∗ run c (.op (.semSignal (n, .tc) q w) P) Q) := by
  unfold signalling
  rw [bigSepL_cons']
  iintro ⟨#HR, HO, Hk, Hl⟩ Hc
  iapply (step_signal m K c k hk l hn hw hq) $$ [HO Hk]
  · isplitr; · iexact HR
    isplitl [HO] <;> iassumption
  iintro HO
  iapply Hc
  isplitl [HO] <;> iassumption

/-- The next send. -/
theorem next_send (c : Dev nD) (k : Fin 8) (hk : k ≠ 0) (l : List (Fin 8)) {n : Dev nD} (hn : n = fwd c k)
    {src : Memref sig .tc .vmem S512x512 .i8} (hs : src = slab (fwd c k))
    {dst : Memref sig .tc .vmem S512x512 .i8} (hd : dst = slot k)
    {qo qi : DmaSem sig} (hqo : qo = outS k) (hqi : qi = inS k)
    {hsc : dst.view.ref.isScScratch = false} {hsrc : src.view.WordExact} {hdst : dst.view.WordExact}
    {hsem : DmaTarget.Typed _ (.dma qi) (.remote (Dev.tc n : Thread nD τ) dst (.dma qo) hsc)}
    {P : PUnit → Prog (TpuEff nD τ sig (Elt F) Λ₀ .tc) α} :
    iprop(records m K ∗ sending m c (k :: l))
      ⊢ iprop(((sending m c l ∗ outKit c k) -∗ run c (P ⟨⟩) Q)
          -∗ run c (.op (.enqueueDma src (.remote (Dev.tc n : Thread nD τ) dst (.dma qo) hsc) (.dma qi) hsrc hdst hsem) P) Q) := by
  unfold sending outKit
  rw [bigSepL_cons']
  iintro ⟨#HR, HO, ⟨Hs, Hk, Ha⟩, Hl⟩ Hc
  iapply (step_send m K c k hk l hn hs hd hqo hqi) $$ [HO Hs Hk]
  · isplitr; · iexact HR
    isplitl [HO]; · iexact HO
    isplitl [Hs] <;> iassumption
  iintro ⟨HO, Hcr⟩
  iapply Hc
  isplitl [HO Hl]; · isplitl [HO] <;> iassumption
  isplitl [Hcr] <;> iassumption

/-- The next arrival. -/
theorem next_arrive (c : Dev nD) (k : Fin 8) (hk : k ≠ 0) (l : List (Fin 8)) {q : DmaSem sig} (hq : q = inS k)
    {sp sp' : Space} {s s' : Shape} {e e' : EltTy} {src : Memref sig .tc sp' s' e'} {dst : Memref sig .tc sp s e}
    (hd : dst.view.dmaCredit = N) {h₁ : src.view.WordExact} {h₂ : dst.view.WordExact}
    {P : PUnit → Prog (TpuEff nD τ sig (Elt F) Λ₀ .tc) α} :
    iprop(records m K ∗ arriving c (k :: l))
      ⊢ iprop(((arriving c l ∗ semVal (inC c k) 0 ∗ slotFull m c k) -∗ run c (P ⟨⟩) Q)
          -∗ run c (.op (.waitDma2 q src dst h₁ h₂) P) Q) := by
  unfold arriving
  rw [bigSepL_cons']
  iintro ⟨#HR, HO, Hk, Hl⟩ Hc
  iapply (step_arrive m K c k hk hq hd) $$ [HO Hk]
  · isplitr; · iexact HR
    isplitl [HO] <;> iassumption
  iintro ⟨HO, Hz, Hs⟩
  iapply Hc
  isplitl [HO Hl]; · isplitl [HO] <;> iassumption
  isplitl [Hz] <;> iassumption

/-! ## The signals -/

/-- Part 1: the device's number, and the signals at offsets 1 and 2. -/
theorem part1_run (c : Dev nD) (l : List (Fin 8))
    {P : (Σ' (d0 : Dev nD) (v2 : BitVec 32) (v3 : Sems sig S_) (v30 : BitVec 32) (v8 : BitVec 32), BitVec 1) → Prog (TpuEff nD τ sig (Elt F) Λ₀ .tc) α} :
    iprop(records m K ∗ signalling c (1 :: 2 :: l))
      ⊢ iprop((∀ v2 v30 v8 v31, signalling c l -∗ run c (P ⟨c, v2, SemArray.scalar (sig.barrier 0 rfl), v30, v8, v31⟩) Q)
          -∗ run c (onBufs (k0_part1 (F := F)) >>= P) Q) := by
  rw [k0_part1_eq_skeleton]; unfold k0_part1_skel
  simp only [semSignalWord, Prog.lift, Prog.bind_op, Prog.bind_ret, Prog.pure_eq_ret, wp_deviceId]
  iintro ⟨#HR, Hs⟩ Hc
  iapply (next_signal m K c 1 (by decide) _ (dev1_eq c) rfl rfl) $$ [Hs]
  · isplitr; · iexact HR
    iexact Hs
  iintro Hs
  iapply (next_signal m K c 2 (by decide) _ (dev2_eq c) rfl rfl) $$ [Hs]
  · isplitr; · iexact HR
    iexact Hs
  iintro Hs
  iapply Hc $$ Hs

/-- Part 2: the signals at offsets 3 and 4. -/
theorem part2_run (c : Dev nD) (l : List (Fin 8)) (v2 v30 v8 : BitVec 32) (v31 : BitVec 1)
    {P : (Σ' (_ : BitVec 32) (_ : BitVec 1), BitVec 32) → Prog (TpuEff nD τ sig (Elt F) Λ₀ .tc) α} :
    iprop(records m K ∗ signalling c (3 :: 4 :: l))
      ⊢ iprop((∀ r, signalling c l -∗ run c (P r) Q)
          -∗ run c (onBufs (k0_part2 (F := F)) c v2 (SemArray.scalar (sig.barrier 0 rfl)) v30 v8 v31 >>= P) Q) := by
  rw [k0_part2_eq_skeleton]; unfold k0_part2_skel
  simp only [semSignalWord, Prog.lift, Prog.bind_op, Prog.bind_ret, Prog.pure_eq_ret]
  iintro ⟨#HR, Hs⟩ Hc
  iapply (next_signal m K c 3 (by decide) _ (dev3_eq c) rfl rfl) $$ [Hs]
  · isplitr; · iexact HR
    iexact Hs
  iintro Hs
  iapply (next_signal m K c 4 (by decide) _ (dev4_eq c) rfl rfl) $$ [Hs]
  · isplitr; · iexact HR
    iexact Hs
  iintro Hs
  iapply Hc $$ Hs

/-- Part 3: the signals at offsets 5, 6 and 7, and the barrier wait, which brings the lent slots. -/
theorem part3_run (c : Dev nD) (v2 v59 : BitVec 32) (v64 : BitVec 1) (v65 : BitVec 32)
    {P : (BitVec 32) → Prog (TpuEff nD τ sig (Elt F) Λ₀ .tc) α} :
    iprop(records m K ∗ signalling c [5, 6, 7] ∗ levAts L rank ∗ cred (tallyAt (barC c) () 7) ∗ atPos EX (barC c) 0 ∅ 0)
      ⊢ iprop((∀ r, (owing c (dueIn c order) ∗ semVal (barC c) 0 ∗ bigSep offs fun j => slotAny (fwd c j) j) -∗ run c (P r) Q)
          -∗ run c (onBufs (k0_part3 (F := F)) c v2 (SemArray.scalar (sig.barrier 0 rfl)) v59 v64 v65 >>= P) Q) := by
  rw [k0_part3_eq_skeleton]; unfold k0_part3_skel
  simp only [semSignalWord, semWaitWord, Prog.lift, Prog.bind_op, Prog.bind_ret, Prog.pure_eq_ret]
  iintro ⟨#HR, Hs, #Hl, Hcr, Hat⟩ Hc
  iapply (next_signal m K c 5 (by decide) _ (dev5_eq c) rfl rfl) $$ [Hs]
  · isplitr; · iexact HR
    iexact Hs
  iintro Hs
  iapply (next_signal m K c 6 (by decide) _ (dev6_eq c) rfl rfl) $$ [Hs]
  · isplitr; · iexact HR
    iexact Hs
  iintro Hs
  iapply (next_signal m K c 7 (by decide) _ (dev7_eq c) rfl rfl) $$ [Hs]
  · isplitr; · iexact HR
    iexact Hs
  iintro Hs
  unfold signalling
  icases Hs with ⟨HO, -⟩
  iapply (step_barrier m K c rfl rfl) $$ [HO Hcr Hat]
  · isplitr; · iexact HR
    isplitl [HO]; · iexact HO
    isplitr; · iexact Hl
    isplitl [Hcr] <;> iassumption
  iintro H
  iapply Hc $$ H

/-! ## The sends -/

/-- Part 4: the send at offset 1. -/
theorem part4_run (c : Dev nD) (l : List (Fin 8)) (v2 v95 : BitVec 32)
    {P : (Σ' (_ : BitVec 32) (_ : BitVec 32), BitVec 32) → Prog (TpuEff nD τ sig (Elt F) Λ₀ .tc) α} :
    iprop(records m K ∗ sending m c (1 :: l))
      ⊢ iprop((∀ r, (sending m c l ∗ outKit c 1) -∗ run c (P r) Q) -∗ run c (onBufs (k0_part4 (F := F)) c v2 v95 >>= P) Q) := by
  rw [k0_part4_eq_skeleton]; unfold k0_part4_skel
  simp only [Prog.lift, Prog.bind_op, Prog.bind_ret, Prog.pure_eq_ret]
  iintro ⟨#HR, Hs⟩ Hc
  iapply (next_send m K c 1 (by decide) _ (dev8_eq c) (slab_at (off1_eq c 1 (by decide)) _ _) rfl rfl rfl) $$ [Hs]
  · isplitr; · iexact HR
    iexact Hs
  iintro ⟨Hs, H1⟩
  iapply Hc
  isplitl [Hs]; · iexact Hs
  iexact H1

/-- Part 5: the sends at offsets 2 and 3. -/
theorem part5_run (c : Dev nD) (l : List (Fin 8)) (v2 v126 v90 : BitVec 32)
    {P : (Σ' (_ : BitVec 32) (_ : BitVec 32), BitVec 32) → Prog (TpuEff nD τ sig (Elt F) Λ₀ .tc) α} :
    iprop(records m K ∗ sending m c (2 :: 3 :: l))
      ⊢ iprop((∀ r, (sending m c l ∗ outKit c 2 ∗ outKit c 3) -∗ run c (P r) Q) -∗ run c (onBufs (k0_part5 (F := F)) c v2 v126 v90 >>= P) Q) := by
  rw [k0_part5_eq_skeleton]; unfold k0_part5_skel
  simp only [Prog.lift, Prog.bind_op, Prog.bind_ret, Prog.pure_eq_ret]
  iintro ⟨#HR, Hs⟩ Hc
  iapply (next_send m K c 2 (by decide) _ (dev9_eq c) (slab_at (off1_eq c 2 (by decide)) _ _) rfl rfl rfl) $$ [Hs]
  · isplitr; · iexact HR
    iexact Hs
  iintro ⟨Hs, H2⟩
  iapply (next_send m K c 3 (by decide) _ (dev10_eq c) (slab_at (off1_eq c 3 (by decide)) _ _) rfl rfl rfl) $$ [Hs]
  · isplitr; · iexact HR
    iexact Hs
  iintro ⟨Hs, H3⟩
  iapply Hc
  isplitl [Hs]; · iexact Hs
  isplitl [H2]; · iexact H2
  iexact H3

/-- Part 6: the send at offset 4. -/
theorem part6_run (c : Dev nD) (l : List (Fin 8)) (v2 v160 v161 : BitVec 32)
    {P : (Σ' (_ : BitVec 32), BitVec 32) → Prog (TpuEff nD τ sig (Elt F) Λ₀ .tc) α} :
    iprop(records m K ∗ sending m c (4 :: l))
      ⊢ iprop((∀ r, (sending m c l ∗ outKit c 4) -∗ run c (P r) Q) -∗ run c (onBufs (k0_part6 (F := F)) c v2 v160 v161 >>= P) Q) := by
  rw [k0_part6_eq_skeleton]; unfold k0_part6_skel
  simp only [Prog.lift, Prog.bind_op, Prog.bind_ret, Prog.pure_eq_ret]
  iintro ⟨#HR, Hs⟩ Hc
  iapply (next_send m K c 4 (by decide) _ (dev11_eq c) (slab_at (off1_eq c 4 (by decide)) _ _) rfl rfl rfl) $$ [Hs]
  · isplitr; · iexact HR
    iexact Hs
  iintro ⟨Hs, H4⟩
  iapply Hc
  isplitl [Hs]; · iexact Hs
  iexact H4

/-- Part 7: the sends at offsets 5 and 6. -/
theorem part7_run (c : Dev nD) (l : List (Fin 8)) (v2 : BitVec 32)
    {P : (Σ' (_ : BitVec 32) (_ : BitVec 32) (_ : BitVec 32) (_ : BitVec 1) (_ : BitVec 1), BitVec 1) → Prog (TpuEff nD τ sig (Elt F) Λ₀ .tc) α} :
    iprop(records m K ∗ sending m c (5 :: 6 :: l))
      ⊢ iprop((∀ r, (sending m c l ∗ outKit c 5 ∗ outKit c 6) -∗ run c (P r) Q) -∗ run c (onBufs (k0_part7 (F := F)) c v2 >>= P) Q) := by
  rw [k0_part7_eq_skeleton]; unfold k0_part7_skel
  simp only [Prog.lift, Prog.bind_op, Prog.bind_ret, Prog.pure_eq_ret]
  iintro ⟨#HR, Hs⟩ Hc
  iapply (next_send m K c 5 (by decide) _ (dev12_eq c) (slab_at (off1_eq c 5 (by decide)) _ _) rfl rfl rfl) $$ [Hs]
  · isplitr; · iexact HR
    iexact Hs
  iintro ⟨Hs, H5⟩
  iapply (next_send m K c 6 (by decide) _ (dev13_eq c) (slab_at (off1_eq c 6 (by decide)) _ _) rfl rfl rfl) $$ [Hs]
  · isplitr; · iexact HR
    iexact Hs
  iintro ⟨Hs, H6⟩
  iapply Hc
  isplitl [Hs]; · iexact Hs
  isplitl [H5]; · iexact H5
  iexact H6

/-! ## The device's own product -/

/-- The offset of a whole matrix is zero on both axes. -/
theorem zero_off : (![0, 0] : Fin 2 → Nat) = fun _ => 0 := by funext a; revert a; decide

/-- Reading the whole of the scratch matrix. -/
theorem read_first (f : Vec F S512x2048 .i32) (inb : ∀ a, (![0, 0] : Fin 2 → Nat) a + S512x2048.size a ≤ S512x2048.size a) :
    pM.view.readAt (Elt F) (Rect.unit (s := S512x2048) ![0, 0] S512x2048.size inb).toLoadRect f = f :=
  Memref.readAt_unit_zero (Elt F) cc0_scratch1 zero_off _ f

/-- Writing the whole of the scratch matrix. -/
theorem write_first (f w : Vec F S512x2048 .i32) (inb : ∀ a, (![0, 0] : Fin 2 → Nat) a + S512x2048.size a ≤ S512x2048.size a) :
    (pM.access (Rect.unit (s := S512x2048) ![0, 0] S512x2048.size inb)).write (Elt F) f w Finset.univ = w :=
  Memref.write_access_unit_zero_univ (Elt F) cc0_scratch1 zero_off _ f w

/-- Writing the whole of the result. -/
theorem write_result (f w : Vec F S512x2048 .f32) (inb : ∀ a, (![0, 0] : Fin 2 → Nat) a + S512x2048.size a ≤ S512x2048.size a) :
    (oM.access (Rect.unit (s := S512x2048) ![0, 0] S512x2048.size inb)).write (Elt F) f w Finset.univ = w :=
  Memref.write_access_unit_zero_univ (Elt F) cc0_stg4_0 zero_off _ f w

/-- Device `c` holds the scratch matrix, at some contents. -/
def firstP (c : Dev nD) : sProp 𝕄 := iprop(∃ g, ((c : Thread nD τ).loc cc0_scratch1) ↦{fullShare} g)

/-- Part 8: the send at offset 7, and the product of the device's own slab. -/
theorem part8_run (c : Dev nD) (v2 v105 v223 v224 : BitVec 32) (v225 v226 v227 : BitVec 1)
    {P : (Σ' (_ : BitVec 32), Vec F S512x2048 .i32) → Prog (TpuEff nD τ sig (Elt F) Λ₀ .tc) α} :
    iprop(records m K ∗ sending m c [7] ∗ slabP m c c ∗ wP m c ∗ firstP c)
      ⊢ iprop((∀ a, (owing c 0 ∗ outKit c 7 ∗ slabP m c c ∗ wP m c ∗ firstP c)
            -∗ run c (P ⟨a, k0_pay2 (F := F) (slabOf m c c) (rowsOf m c c)⟩) Q)
          -∗ run c (onBufs (k0_part8 (F := F)) c v2 v105 v223 v224 v225 v226 v227 >>= P) Q) := by
  rw [k0_part8_eq_skeleton]; unfold k0_part8_skel
  simp only [Prog.lift, Prog.bind_op, Prog.bind_ret, Prog.pure_eq_ret]
  iintro ⟨#HR, Hs, Hx, Hw, Hf⟩ Hc
  iapply (next_send m K c 7 (by decide) _ (dev14_eq c) (slab_at (off1_eq c 7 (by decide)) _ _) rfl rfl rfl) $$ [Hs]
  · isplitr; · iexact HR
    iexact Hs
  iintro ⟨Hs, H7⟩
  unfold firstP
  icases Hf with ⟨%g, Hf⟩
  iapply (step_loadX m c c (k0_off2_eq c)) $$ Hx; iintro Hx
  iapply (step_loadW m c c (k0_off3_eq c)) $$ Hw; iintro Hw
  iapply (wp_load 𝒱₀ (c : Thread nD τ) none Set.univ (m := pM) (Finset.subset_univ _)) $$ Hf; iintro Hf
  iapply (wp_store 𝒱₀ (c : Thread nD τ) none Set.univ (m := pM)
    (r := Rect.unit (s := S512x2048) ![0, 0] S512x2048.size inb_S512x2048_S512x2048_0_0) (Mk := Finset.univ) (Finset.subset_univ _)) $$ Hf; iintro Hf
  rw [write_first]
  iapply (wp_load 𝒱₀ (c : Thread nD τ) none Set.univ (m := pM) (Finset.subset_univ _)) $$ Hf; iintro Hf
  rw [read_first]
  unfold sending
  icases Hs with ⟨HO, -⟩
  iapply Hc
  isplitl [HO]; · iexact HO
  isplitl [H7]; · iexact H7
  isplitl [Hx]; · iexact Hx
  isplitl [Hw]; · iexact Hw
  iexists _; iexact Hf

/-! ## The arrivals and their products -/

/-- Part 9: the arrivals at offsets 1 and 2, and the product of the first. -/
theorem part9_run (c : Dev nD) (l : List (Fin 8)) (v2 v126 : BitVec 32) (v254 : Vec F S512x2048 .i32)
    {P : (Σ' (_ : IVec S512x2048 32) (_ : BitVec 32) (_ : BitVec 32), BitVec 32) → Prog (TpuEff nD τ sig (Elt F) Λ₀ .tc) α} :
    iprop(records m K ∗ arriving c (1 :: 2 :: l) ∗ wP m c)
      ⊢ iprop((∀ a b d, (arriving c l ∗ wP m c ∗ semVal (inC c 1) 0 ∗ slotFull m c 1 ∗ semVal (inC c 2) 0 ∗ slotFull m c 2) -∗ run c (P ⟨(k0_pay3 (F := F) v254 (landed m c 1) (rowsOf m c (bwd c 1))), a, b, d⟩) Q)
          -∗ run c (onBufs (k0_part9 (F := F)) c v2 v126 v254 >>= P) Q) := by
  rw [k0_part9_eq_skeleton]; unfold k0_part9_skel
  simp only [Prog.lift, Prog.bind_op, Prog.bind_ret, Prog.pure_eq_ret]
  iintro ⟨#HR, Ha, Hw⟩ Hc
  iapply (next_arrive m K c 1 (by decide) _ rfl (slot_credit 1)) $$ [Ha]
  · isplitr; · iexact HR
    iexact Ha
  iintro ⟨Ha, Hz1, Hs1⟩
  iapply (step_loadSlot m c 1 rfl) $$ Hs1; iintro Hs1
  iapply (step_loadW m c (bwd c 1) (off4_eq c 1 (by decide))) $$ Hw; iintro Hw
  iapply (next_arrive m K c 2 (by decide) _ rfl (slot_credit 2)) $$ [Ha]
  · isplitr; · iexact HR
    iexact Ha
  iintro ⟨Ha, Hz2, Hs2⟩
  iapply Hc
  isplitl [Ha]; · iexact Ha
  isplitl [Hw]; · iexact Hw
  isplitl [Hz1]; · iexact Hz1
  isplitl [Hs1]; · iexact Hs1
  isplitl [Hz2]; · iexact Hz2
  iexact Hs2

/-- Part 10: the product at offset 2, and the arrival at offset 3. -/
theorem part10_run (c : Dev nD) (l : List (Fin 8)) (v2 v147 : BitVec 32) (v280 : IVec S512x2048 32) (v290 v291 v214 : BitVec 32)
    {P : (Σ' (_ : IVec S512x2048 32), BitVec 32) → Prog (TpuEff nD τ sig (Elt F) Λ₀ .tc) α} :
    iprop(records m K ∗ arriving c (3 :: l) ∗ wP m c ∗ slotFull m c 2)
      ⊢ iprop((∀ a, (arriving c l ∗ wP m c ∗ slotFull m c 2 ∗ semVal (inC c 3) 0 ∗ slotFull m c 3) -∗ run c (P ⟨(k0_pay4 (F := F) v280 (landed m c 2) (rowsOf m c (bwd c 2))), a⟩) Q)
          -∗ run c (onBufs (k0_part10 (F := F)) c v2 v147 v280 v290 v291 v214 >>= P) Q) := by
  rw [k0_part10_eq_skeleton]; unfold k0_part10_skel
  simp only [Prog.lift, Prog.bind_op, Prog.bind_ret, Prog.pure_eq_ret]
  iintro ⟨#HR, Ha, Hw, Hs2⟩ Hc
  iapply (step_loadSlot m c 2 rfl) $$ Hs2; iintro Hs2
  iapply (step_loadW m c (bwd c 2) (off4_eq c 2 (by decide))) $$ Hw; iintro Hw
  iapply (next_arrive m K c 3 (by decide) _ rfl (slot_credit 3)) $$ [Ha]
  · isplitr; · iexact HR
    iexact Ha
  iintro ⟨Ha, Hz3, Hs3⟩
  iapply Hc
  isplitl [Ha]; · iexact Ha
  isplitl [Hw]; · iexact Hw
  isplitl [Hs2]; · iexact Hs2
  isplitl [Hz3]; · iexact Hz3
  iexact Hs3

/-- Part 11: the products at offsets 3 and 4, with the arrival at offset 4 between them. -/
theorem part11_run (c : Dev nD) (l : List (Fin 8)) (v2 v168 : BitVec 32) (v306 : IVec S512x2048 32) (v324 : BitVec 32)
    {P : (IVec S512x2048 32) → Prog (TpuEff nD τ sig (Elt F) Λ₀ .tc) α} :
    iprop(records m K ∗ arriving c (4 :: l) ∗ wP m c ∗ slotFull m c 3)
      ⊢ iprop(((arriving c l ∗ wP m c ∗ slotFull m c 3 ∗ semVal (inC c 4) 0 ∗ slotFull m c 4) -∗ run c (P (k0_pay5 (F := F) v306 (landed m c 3) (rowsOf m c (bwd c 3)) (landed m c 4) (rowsOf m c (bwd c 4)))) Q)
          -∗ run c (onBufs (k0_part11 (F := F)) c v2 v168 v306 v324 >>= P) Q) := by
  rw [k0_part11_eq_skeleton]; unfold k0_part11_skel
  simp only [Prog.lift, Prog.bind_op, Prog.bind_ret, Prog.pure_eq_ret]
  iintro ⟨#HR, Ha, Hw, Hs3⟩ Hc
  iapply (step_loadSlot m c 3 rfl) $$ Hs3; iintro Hs3
  iapply (step_loadW m c (bwd c 3) (off4_eq c 3 (by decide))) $$ Hw; iintro Hw
  iapply (next_arrive m K c 4 (by decide) _ rfl (slot_credit 4)) $$ [Ha]
  · isplitr; · iexact HR
    iexact Ha
  iintro ⟨Ha, Hz4, Hs4⟩
  iapply (step_loadSlot m c 4 rfl) $$ Hs4; iintro Hs4
  iapply (step_loadW m c (bwd c 4) (off4_eq c 4 (by decide))) $$ Hw; iintro Hw
  iapply Hc
  isplitl [Ha]; · iexact Ha
  isplitl [Hw]; · iexact Hw
  isplitl [Hs3]; · iexact Hs3
  isplitl [Hz4]; · iexact Hz4
  iexact Hs4

/-- Part 12: the arrival at offset 5 and its product. -/
theorem part12_run (c : Dev nD) (l : List (Fin 8)) (v2 v189 v210 : BitVec 32) (v358 : IVec S512x2048 32)
    {P : (IVec S512x2048 32) → Prog (TpuEff nD τ sig (Elt F) Λ₀ .tc) α} :
    iprop(records m K ∗ arriving c (5 :: l) ∗ wP m c)
      ⊢ iprop(((arriving c l ∗ wP m c ∗ semVal (inC c 5) 0 ∗ slotFull m c 5) -∗ run c (P (k0_pay6 (F := F) v358 (landed m c 5) (rowsOf m c (bwd c 5)))) Q)
          -∗ run c (onBufs (k0_part12 (F := F)) c v2 v189 v210 v358 >>= P) Q) := by
  rw [k0_part12_eq_skeleton]; unfold k0_part12_skel
  simp only [Prog.lift, Prog.bind_op, Prog.bind_ret, Prog.pure_eq_ret]
  iintro ⟨#HR, Ha, Hw⟩ Hc
  iapply (next_arrive m K c 5 (by decide) _ rfl (slot_credit 5)) $$ [Ha]
  · isplitr; · iexact HR
    iexact Ha
  iintro ⟨Ha, Hz5, Hs5⟩
  iapply (step_loadSlot m c 5 rfl) $$ Hs5; iintro Hs5
  iapply (step_loadW m c (bwd c 5) (off4_eq c 5 (by decide))) $$ Hw; iintro Hw
  iapply Hc
  isplitl [Ha]; · iexact Ha
  isplitl [Hw]; · iexact Hw
  isplitl [Hz5]; · iexact Hz5
  iexact Hs5

/-- Part 13: the arrival at offset 6 and its product, and the arrival at offset 7. -/
theorem part13_run (c : Dev nD) (l : List (Fin 8)) (v2 v231 : BitVec 32) (v384 : IVec S512x2048 32)
    {P : (Σ' (_ : IVec S512x2048 32) (_ : BitVec 32) (_ : BitVec 32), BitVec 32) → Prog (TpuEff nD τ sig (Elt F) Λ₀ .tc) α} :
    iprop(records m K ∗ arriving c (6 :: 7 :: l) ∗ wP m c)
      ⊢ iprop((∀ a b d, (arriving c l ∗ wP m c ∗ semVal (inC c 6) 0 ∗ slotFull m c 6 ∗ semVal (inC c 7) 0 ∗ slotFull m c 7) -∗ run c (P ⟨(k0_pay7 (F := F) v384 (landed m c 6) (rowsOf m c (bwd c 6))), a, b, d⟩) Q)
          -∗ run c (onBufs (k0_part13 (F := F)) c v2 v231 v384 >>= P) Q) := by
  rw [k0_part13_eq_skeleton]; unfold k0_part13_skel
  simp only [Prog.lift, Prog.bind_op, Prog.bind_ret, Prog.pure_eq_ret]
  iintro ⟨#HR, Ha, Hw⟩ Hc
  iapply (next_arrive m K c 6 (by decide) _ rfl (slot_credit 6)) $$ [Ha]
  · isplitr; · iexact HR
    iexact Ha
  iintro ⟨Ha, Hz6, Hs6⟩
  iapply (step_loadSlot m c 6 rfl) $$ Hs6; iintro Hs6
  iapply (step_loadW m c (bwd c 6) (off4_eq c 6 (by decide))) $$ Hw; iintro Hw
  iapply (next_arrive m K c 7 (by decide) _ rfl (slot_credit 7)) $$ [Ha]
  · isplitr; · iexact HR
    iexact Ha
  iintro ⟨Ha, Hz7, Hs7⟩
  iapply Hc
  isplitl [Ha]; · iexact Ha
  isplitl [Hw]; · iexact Hw
  isplitl [Hz6]; · iexact Hz6
  isplitl [Hs6]; · iexact Hs6
  isplitl [Hz7]; · iexact Hz7
  iexact Hs7

/-! ## The departures and the result -/

/-- A slab counts the same wherever it starts. -/
theorem slab_credit_at {off : Fin 2 → Nat} {inb : ∀ a, off a + S512x512.size a ≤ S4096x512.size a}
    {hu : ∀ a, (Rect.unit (s := S4096x512) off S512x512.size inb).stride a = 1} :
    (xM.slice (Rect.unit (s := S4096x512) off S512x512.size inb) hu).view.dmaCredit = N := rfl

/-- Part 14: the product at offset 7, and the departures at offsets 1 and 2. -/
theorem part14_run (c : Dev nD) (v410 : IVec S512x2048 32) (v420 v421 v314 : BitVec 32)
    {P : (IVec S512x2048 32) → Prog (TpuEff nD τ sig (Elt F) Λ₀ .tc) α} :
    iprop(records m K ∗ owing c 0 ∗ wP m c ∗ slotFull m c 7 ∗ outKit c 1 ∗ outKit c 2)
      ⊢ iprop(((owing c 0 ∗ wP m c ∗ slotFull m c 7 ∗ semVal (outC c 1) 0 ∗ slabP m c (fwd c 1) ∗ semVal (outC c 2) 0 ∗ slabP m c (fwd c 2)) -∗ run c (P (k0_pay8 (F := F) v410 (landed m c 7) (rowsOf m c (bwd c 7)))) Q)
          -∗ run c (onBufs (k0_part14 (F := F)) c v410 v420 v421 v314 >>= P) Q) := by
  rw [k0_part14_eq_skeleton]; unfold k0_part14_skel
  simp only [Prog.lift, Prog.bind_op, Prog.bind_ret, Prog.pure_eq_ret]
  iintro ⟨#HR, Ho, Hw, Hs7, Hd1, Hd2⟩ Hc
  iapply (step_loadSlot m c 7 rfl) $$ Hs7; iintro Hs7
  iapply (step_loadW m c (bwd c 7) (off4_eq c 7 (by decide))) $$ Hw; iintro Hw
  iapply (step_depart m K c 1 (by decide) rfl slab_credit_at) $$ [Ho Hd1]
  · isplitr; · iexact HR
    isplitl [Ho] <;> iassumption
  iintro ⟨Ho, Hz1, Hx1⟩
  iapply (step_depart m K c 2 (by decide) rfl slab_credit_at) $$ [Ho Hd2]
  · isplitr; · iexact HR
    isplitl [Ho] <;> iassumption
  iintro ⟨Ho, Hz2, Hx2⟩
  iapply Hc
  isplitl [Ho]; · iexact Ho
  isplitl [Hw]; · iexact Hw
  isplitl [Hs7]; · iexact Hs7
  isplitl [Hz1]; · iexact Hz1
  isplitl [Hx1]; · iexact Hx1
  isplitl [Hz2]; · iexact Hz2
  iexact Hx2

/-- The word in a one-element buffer. -/
def wordOf (f : Vec F S1 .f32) : Elt F .f32 := f (fun a => ⟨0, by revert a; decide⟩)

/-- The offset of a one-element buffer is zero. -/
theorem zero_off1 : (![0] : Fin 1 → Nat) = fun _ => 0 := by funext a; revert a; decide

/-- Device `c` holds the scale of `x`. -/
def sxP (c : Dev nD) : sProp 𝕄 := ((c : Thread nD τ).loc cc0_stg2_0) ↦{fullShare} sxAt m c
/-- Device `c` holds the scale of the weights. -/
def swP (c : Dev nD) : sProp 𝕄 := ((c : Thread nD τ).loc cc0_stg3_0) ↦{fullShare} swAt m c

/-- Loading the scale of `x`. -/
theorem step_sx (c : Dev nD) {inb : ∀ a, (![0] : Fin 1 → Nat) a + S1.size a ≤ S1.size a}
    {hl : sxM.view.LoadsAt (Rect.unit (s := S1) ![0] S1.size inb).toLoadRect}
    {P : (S1.Idx → Elt F .f32) → Prog (TpuEff nD τ sig (Elt F) Λ₀ .tc) α} :
    sxP m c ⊢ iprop((sxP m c -∗ run c (P (sxAt m c)) Q)
      -∗ run c (.op (.load sxM (Rect.unit (s := S1) ![0] S1.size inb).toLoadRect hl) P) Q) := by
  iintro H Hk
  unfold sxP
  iapply (wp_load 𝒱₀ (c : Thread nD τ) none Set.univ (m := sxM) (Finset.subset_univ _)) $$ H; iintro H
  rw [show sxM.view.readAt (Elt F) (Rect.unit (s := S1) ![0] S1.size inb).toLoadRect (sxAt m c) = sxAt m c from
    Memref.readAt_unit_zero (Elt F) cc0_stg2_0 zero_off1 _ _]
  iapply Hk $$ H

/-- Loading the scale of the weights. -/
theorem step_sw (c : Dev nD) {inb : ∀ a, (![0] : Fin 1 → Nat) a + S1.size a ≤ S1.size a}
    {hl : swM.view.LoadsAt (Rect.unit (s := S1) ![0] S1.size inb).toLoadRect}
    {P : (S1.Idx → Elt F .f32) → Prog (TpuEff nD τ sig (Elt F) Λ₀ .tc) α} :
    swP m c ⊢ iprop((swP m c -∗ run c (P (swAt m c)) Q)
      -∗ run c (.op (.load swM (Rect.unit (s := S1) ![0] S1.size inb).toLoadRect hl) P) Q) := by
  iintro H Hk
  unfold swP
  iapply (wp_load 𝒱₀ (c : Thread nD τ) none Set.univ (m := swM) (Finset.subset_univ _)) $$ H; iintro H
  rw [show swM.view.readAt (Elt F) (Rect.unit (s := S1) ![0] S1.size inb).toLoadRect (swAt m c) = swAt m c from
    Memref.readAt_unit_zero (Elt F) cc0_stg3_0 zero_off1 _ _]
  iapply Hk $$ H

/-- Part 15: the departures at offsets 3 to 7, and the two scales. -/
theorem part15_run (c : Dev nD) (v436 : IVec S512x2048 32)
    {P : (Σ' (_ : FVec F S512x2048 .f32), F .f32) → Prog (TpuEff nD τ sig (Elt F) Λ₀ .tc) α} :
    iprop(records m K ∗ owing c 0 ∗ outKit c 3 ∗ outKit c 4 ∗ outKit c 5 ∗ outKit c 6 ∗ outKit c 7 ∗ sxP m c ∗ swP m c)
      ⊢ iprop(((owing c 0 ∗ semVal (outC c 3) 0 ∗ slabP m c (fwd c 3) ∗ semVal (outC c 4) 0 ∗ slabP m c (fwd c 4) ∗ semVal (outC c 5) 0 ∗ slabP m c (fwd c 5) ∗ semVal (outC c 6) 0 ∗ slabP m c (fwd c 6) ∗ semVal (outC c 7) 0 ∗ slabP m c (fwd c 7) ∗ sxP m c ∗ swP m c) -∗ run c (P ⟨k0_pay9 (F := F) v436, k0_pay10 (wordOf (sxAt m c)) (wordOf (swAt m c))⟩) Q)
          -∗ run c (onBufs (k0_part15 (F := F)) c v436 >>= P) Q) := by
  rw [k0_part15_eq_skeleton]; unfold k0_part15_skel
  simp only [Prog.lift, Prog.bind_op, Prog.bind_ret, Prog.pure_eq_ret]
  iintro ⟨#HR, Ho, Hd3, Hd4, Hd5, Hd6, Hd7, Hsx, Hsw⟩ Hc
  iapply (step_depart m K c 3 (by decide) rfl slab_credit_at) $$ [Ho Hd3]
  · isplitr; · iexact HR
    isplitl [Ho] <;> iassumption
  iintro ⟨Ho, Hz3, Hx3⟩
  iapply (step_depart m K c 4 (by decide) rfl slab_credit_at) $$ [Ho Hd4]
  · isplitr; · iexact HR
    isplitl [Ho] <;> iassumption
  iintro ⟨Ho, Hz4, Hx4⟩
  iapply (step_depart m K c 5 (by decide) rfl slab_credit_at) $$ [Ho Hd5]
  · isplitr; · iexact HR
    isplitl [Ho] <;> iassumption
  iintro ⟨Ho, Hz5, Hx5⟩
  iapply (step_depart m K c 6 (by decide) rfl slab_credit_at) $$ [Ho Hd6]
  · isplitr; · iexact HR
    isplitl [Ho] <;> iassumption
  iintro ⟨Ho, Hz6, Hx6⟩
  iapply (step_depart m K c 7 (by decide) rfl slab_credit_at) $$ [Ho Hd7]
  · isplitr; · iexact HR
    isplitl [Ho] <;> iassumption
  iintro ⟨Ho, Hz7, Hx7⟩
  simp only [smemLoad, smemLoadElt, Prog.bind_op, Prog.bind_ret]
  iapply (step_sx m c) $$ Hsx; iintro Hsx
  iapply (step_sw m c) $$ Hsw; iintro Hsw
  iapply Hc
  isplitl [Ho]; · iexact Ho
  isplitl [Hz3]; · iexact Hz3
  isplitl [Hx3]; · iexact Hx3
  isplitl [Hz4]; · iexact Hz4
  isplitl [Hx4]; · iexact Hx4
  isplitl [Hz5]; · iexact Hz5
  isplitl [Hx5]; · iexact Hx5
  isplitl [Hz6]; · iexact Hz6
  isplitl [Hx6]; · iexact Hx6
  isplitl [Hz7]; · iexact Hz7
  isplitl [Hx7]; · iexact Hx7
  isplitl [Hsx]; · iexact Hsx
  iexact Hsw

end Cert.Kernel.Swap
-- ==== Proof.Body.lean ====
/-
# The kernel's body on one device

What a device holds when its kernel starts, what it holds when the kernel ends, the matrix it has
computed, and the run of the body from the one to the other.
-/
module

public import proofs.«01_k».proof.Proof.Parts

@[expose] public section

noncomputable section

namespace Cert.Kernel.Swap

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What device `c` computes -/

/-- The product of the device's own slab. -/
def acc1 (c : Dev nD) : IVec S512x2048 32 := k0_pay2 (F := F) (slabOf m c c) (rowsOf m c c)
/-- The sum after the slab at offset 1. -/
def acc2 (c : Dev nD) : IVec S512x2048 32 := k0_pay3 (F := F) (acc1 m c) (landed m c 1) (rowsOf m c (bwd c 1))
/-- The sum after the slab at offset 2. -/
def acc3 (c : Dev nD) : IVec S512x2048 32 := k0_pay4 (F := F) (acc2 m c) (landed m c 2) (rowsOf m c (bwd c 2))
/-- The sum after the slabs at offsets 3 and 4. -/
def acc5 (c : Dev nD) : IVec S512x2048 32 :=
  k0_pay5 (F := F) (acc3 m c) (landed m c 3) (rowsOf m c (bwd c 3)) (landed m c 4) (rowsOf m c (bwd c 4))
/-- The sum after the slab at offset 5. -/
def acc6 (c : Dev nD) : IVec S512x2048 32 := k0_pay6 (F := F) (acc5 m c) (landed m c 5) (rowsOf m c (bwd c 5))
/-- The sum after the slab at offset 6. -/
def acc7 (c : Dev nD) : IVec S512x2048 32 := k0_pay7 (F := F) (acc6 m c) (landed m c 6) (rowsOf m c (bwd c 6))
/-- The sum after the slab at offset 7. -/
def acc8 (c : Dev nD) : IVec S512x2048 32 := k0_pay8 (F := F) (acc7 m c) (landed m c 7) (rowsOf m c (bwd c 7))
/-- The matrix that device `c` stores. -/
def outAt (c : Dev nD) : Vec F S512x2048 .f32 :=
  k0_pay1 (k0_pay9 (F := F) (acc8 m c)) (k0_pay10 (wordOf (sxAt m c)) (wordOf (swAt m c)))

/-! ## What it holds at the start and at the end -/

/-- What device `c` needs for one offset. -/
def offKit (c : Dev nD) (k : Fin 8) : sProp 𝕄 :=
  iprop(dutyTok EX (barC (fwd c k)) 0 (-k) ∗ (dutyTok EX (outC c k) 0 0 ∗ dutyTok EX (inC (fwd c k) k) 0 0)
    ∗ inKit c k ∗ atPos EX (outC c k) 0 ∅ 0)

/-- What device `c` needs for the whole exchange. -/
def allKits (c : Dev nD) : sProp 𝕄 :=
  iprop(atPos EX (barC c) 0 ∅ 0 ∗ cred (tallyAt (barC c) () 7) ∗ atPos EX (outC c 0) 0 ∅ 0 ∗ atPos EX (inC c 0) 0 ∅ 0
    ∗ bigSep offs (offKit c))

/-- What device `c`'s body starts from. -/
def start (c : Dev nD) : sProp 𝕄 := iprop((∃ K, records m K) ∗ allKits c ∗ levAts L rank)

/-- Device `c` holds its receive buffer, at some contents. -/
def commP (c : Dev nD) : sProp 𝕄 := iprop(∃ f, ((c : Thread nD τ).loc cc0_scratch0) ↦{fullShare} f)

/-- Before the body. -/
def Φ₀ (c : Dev nD) : sProp 𝕄 := iprop(start m c ∗ commP c ∗ firstP c)
/-- After the body: the two scratch buffers, and every semaphore of the exchange closed at zero. -/
def Φ₁ (c : Dev nD) : sProp 𝕄 :=
  iprop(commP c ∗ firstP c ∗ (bigSep Finset.univ fun j : Fin 8 ⊕ Fin 8 => semVal (cell (c, .inr j)) 0) ∗ semVal (barC c) 0)

/-- The pipeline's data on device `c`: its arrays, what the body leaves in each staged block, what the device holds
    before and after the body, and what it owes. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wAt m c
    | ⟨2, _⟩ => sxAt m c
    | ⟨3, _⟩ => swAt m c
    | ⟨4, _⟩ => outAt m c
  Φ t := match t with
    | ⟨0, _⟩ => Φ₀ m c
    | ⟨_ + 1, _⟩ => Φ₁ c
  q _ := fullShare
  owed t := match t with
    | ⟨0, _⟩ => dueBar c order
    | ⟨_ + 1, _⟩ => 0

/-! ## Cutting and joining -/

/-- The seven offsets one by one. -/
theorem offs_list (Φ : Fin 8 → sProp 𝕄) : bigSep offs Φ = bigSepL order Φ :=
  bigSep_eq_bigSepL_of_eq (S := offs) order (by decide) (by decide) Φ

/-- The device at each offset from `c`. -/
def turn (c : Fin 8) : Fin 8 ≃ Fin 8 where
  toFun k := c + k
  invFun o := o - c
  left_inv := by intro k; revert c k; decide
  right_inv := by intro k; revert c k; decide

/-- Negating an offset. -/
def flip : Fin 8 ≃ Fin 8 where
  toFun k := -k
  invFun k := -k
  left_inv := by intro k; revert k; decide
  right_inv := by intro k; revert k; decide

/-- Going by offset, a device meets every other once. -/
theorem by_offset (c : Dev nD) (Φ : Fin 8 → sProp 𝕄) : bigSep Finset.univ Φ = bigSep Finset.univ fun k => Φ (fwd c k) :=
  bigSep_univ_equiv (turn c) Φ

/-- Negating the offsets permutes them. -/
theorem by_negation (Φ : Fin 8 → sProp 𝕄) : bigSep Finset.univ Φ = bigSep Finset.univ fun k => Φ (-k) :=
  bigSep_univ_equiv flip Φ

/-- Offset 0 leads from a device to itself. -/
theorem fwd_zero (c : Dev nD) : fwd c 0 = c := by revert c; decide

/-- What a device holds for the sends, but for the lent slots. -/
def sendRest (c : Dev nD) (k : Fin 8) : sProp 𝕄 := iprop(sendKit m c k ∗ atPos EX (outC c k) 0 ∅ 0)

/-- A slot at some contents. -/
theorem slotAny_intro (c : Dev nD) (k : Fin 8) (f : Buf (Elt F) ((slot k).view.loc (c : Thread nD τ))) :
    (slotP c k f : sProp 𝕄) ⊢ slotAny c k := by
  unfold slotAny; iintro H; iexists f; iexact H

/-- A device's receive buffer, cut into its own slot and the slots it lends. -/
theorem lend (c : Dev nD) (f : Buf (Elt F) ((c : Thread nD τ).loc cc0_scratch0)) :
    (((c : Thread nD τ).loc cc0_scratch0) ↦{fullShare} f : sProp 𝕄)
      ⊢ iprop(slotAny c 0 ∗ bigSep offs fun k => slotAny c (-k)) := by
  rw [slots_split]
  refine (bigSep_mono fun k _ => slotAny_intro c k f).trans ?_
  rw [by_negation, bigSep_univ_at _ 0]
  exact BI.Entails.refl _

/-- At the start, everything is dealt to the offset that needs it. -/
theorem deal (c : Dev nD) :
    iprop(allKits c ∗ (((c : Thread nD τ).loc cc0_stg0_0) ↦{fullShare} xAt m c) ∗ commP c)
      ⊢ (iprop((atPos EX (barC c) 0 ∅ 0 ∗ cred (tallyAt (barC c) () 7)) ∗ (atPos EX (outC c 0) 0 ∅ 0 ∗ atPos EX (inC c 0) 0 ∅ 0)
        ∗ slabP m c c ∗ slotAny c 0 ∗ bigSepL order (sigKit c) ∗ bigSep offs (sendRest m c) ∗ bigSepL order (inKit c)) : sProp 𝕄) := by
  rw [slabs_split, by_offset c (slabP m c ·), bigSep_univ_at _ 0, fwd_zero, ← offs_list, ← offs_list]
  unfold allKits commP
  rw [show bigSep offs (offKit c) = (iprop((bigSep offs fun k => dutyTok EX (barC (fwd c k)) 0 (-k))
      ∗ (bigSep offs fun k => iprop(dutyTok EX (outC c k) 0 0 ∗ dutyTok EX (inC (fwd c k) k) 0 0))
      ∗ bigSep offs (inKit c) ∗ bigSep offs fun k => atPos EX (outC c k) 0 ∅ 0) : sProp 𝕄) by
    rw [← bigSep_sep', ← bigSep_sep', ← bigSep_sep']; rfl]
  iintro ⟨⟨Hb, Hcr, Ho0, Hi0, Hts, Htt, Hin, Hpo⟩, ⟨Hx0, Hxs⟩, ⟨%f, Hf⟩⟩
  ihave Hslots := (lend c f) $$ Hf
  icases Hslots with ⟨Hs0, Hss⟩
  isplitl [Hb Hcr]; · isplitl [Hb] <;> iassumption
  isplitl [Ho0 Hi0]; · isplitl [Ho0] <;> iassumption
  isplitl [Hx0]; · iexact Hx0
  isplitl [Hs0]; · iexact Hs0
  isplitl [Hts Hss]
  · iapply (Entails.of_eq (bigSep_sep' offs (fun k => (dutyTok EX (barC (fwd c k)) 0 (-k) : sProp 𝕄)) (fun k => slotAny c (-k))).symm)
    isplitl [Hts] <;> iassumption
  isplitl [Htt Hpo Hxs]
  · iapply (show (iprop(((bigSep offs fun k => slabP m c (fwd c k))
        ∗ bigSep offs fun k => iprop(dutyTok EX (outC c k) 0 0 ∗ dutyTok EX (inC (fwd c k) k) 0 0))
        ∗ bigSep offs fun k => atPos EX (outC c k) 0 ∅ 0) : sProp 𝕄) ⊢ bigSep offs (sendRest m c) from by
      rw [← bigSep_sep', ← bigSep_sep']; exact BI.Entails.refl _)
    isplitl [Htt Hxs]
    · isplitl [Hxs] <;> iassumption
    iexact Hpo
  iexact Hin

/-- With the lent slots, the sends can start. -/
theorem ready (c : Dev nD) :
    iprop(owing c (dueIn c order) ∗ (bigSep offs fun j => slotAny (fwd c j) j) ∗ bigSep offs (sendRest m c))
      ⊢ (sending m c order : sProp 𝕄) := by
  unfold sending
  rw [← bigSep_sep', offs_list]
  exact BI.Entails.refl _

/-- What is back at offset `k` at the end. -/
def back (c : Dev nD) (k : Fin 8) : sProp 𝕄 :=
  iprop((semVal (outC c k) 0 ∗ semVal (inC c k) 0) ∗ slabP m c (fwd c k) ∗ slotAny c k)

/-- At the end, the two buffers are whole again and the semaphores closed. -/
theorem gather (c : Dev nD) :
    bigSep Finset.univ (back m c)
      ⊢ (iprop((bigSep Finset.univ fun j : Fin 8 ⊕ Fin 8 => semVal (cell (c, .inr j)) 0)
        ∗ (((c : Thread nD τ).loc cc0_stg0_0) ↦{fullShare} xAt m c) ∗ commP c) : sProp 𝕄) := by
  rw [slabs_split, by_offset c (slabP m c ·), bigSep_univ_sum]
  rw [show bigSep Finset.univ (back m c) = (iprop(((bigSep Finset.univ fun k => semVal (outC c k) 0) ∗ bigSep Finset.univ fun k => semVal (inC c k) 0)
      ∗ (bigSep Finset.univ fun k => slabP m c (fwd c k)) ∗ bigSep Finset.univ (slotAny c)) : sProp 𝕄) by
    rw [← bigSep_sep', ← bigSep_sep', ← bigSep_sep']; rfl]
  iintro ⟨Hz, Hx, Hs⟩
  isplitl [Hz]; · iexact Hz
  isplitl [Hx]; · iexact Hx
  unfold commP
  iapply (slots_join c (fun _ => default)) $$ Hs

/-! ## The run of the body -/

/-- A staged block on device `c`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body starts from, the staged blocks at hand. -/
def bodyIn (K : Dev nD × CK → ℕ) (c : Dev nD) : sProp 𝕄 :=
  iprop(records m K ∗ levAts L rank ∗ allKits c ∗ commP c ∗ firstP c ∗ owing c (dueBar c order)
    ∗ (((c : Thread nD τ).loc cc0_stg0_0) ↦{fullShare} xAt m c) ∗ wP m c ∗ sxP m c ∗ swP m c
    ∗ ∃ g, ((c : Thread nD τ).loc cc0_stg4_0) ↦{fullShare} g)

/-- What the body ends with. -/
def bodyOut (c : Dev nD) : sProp 𝕄 :=
  iprop(Φ₁ c ∗ owing c 0
    ∗ (((c : Thread nD τ).loc cc0_stg0_0) ↦{fullShare} xAt m c) ∗ wP m c ∗ sxP m c ∗ swP m c
    ∗ (((c : Thread nD τ).loc cc0_stg4_0) ↦{fullShare} outAt m c))

/-- The eight offsets one by one. -/
theorem all_list (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What came back at an offset other than 0. -/
theorem back_intro (c : Dev nD) (k : Fin 8) :
    (iprop(semVal (outC c k) 0 ∗ semVal (inC c k) 0 ∗ slabP m c (fwd c k) ∗ slotFull m c k) : sProp 𝕄) ⊢ back m c k := by
  unfold back
  iintro ⟨Ho, Hi, Hx, Hs⟩
  isplitl [Ho Hi]; · isplitl [Ho] <;> iassumption
  isplitl [Hx]; · iexact Hx
  iapply (slotFull_any m c k) $$ Hs

set_option maxHeartbeats 1000000 in
/-- The body runs from its start to its end: the signals, the barrier, the sends, the arrivals with their products,
    the departures, and the store of the scaled sum. -/
theorem body_run (K : Dev nD × CK → ℕ) (c : Dev nD) (Q : PUnit → sProp 𝕄) :
    iprop(bodyIn m K c ∗ (bodyOut m c -∗ Q ⟨⟩)) ⊢ run c (onBufs (cc0_body (F := F))) Q := by
  rw [cc0_body_eq_skeleton]; unfold cc0_body_skel bodyIn
  iintro ⟨⟨#HR, #Hl, Hkits, Hcomm, Hf, HO, Hx, Hw, Hsx, Hsw, ⟨%g, Hout⟩⟩, Hend⟩
  ihave H := (deal m c) $$ [Hkits Hx Hcomm]
  · isplitl [Hkits]; · iexact Hkits
    isplitl [Hx] <;> iassumption
  icases H with ⟨⟨Hb, Hcr⟩, ⟨Ho0, Hi0⟩, Hx0, Hs0, Hsig, Hrest, Hin⟩
  iapply (part1_run m K c [3, 4, 5, 6, 7]) $$ [HO Hsig]
  · isplitr; · iexact HR
    unfold signalling
    isplitl [HO] <;> iassumption
  iintro %v2 %v30 %v8 %v31 Hsig
  iapply (part2_run m K c [5, 6, 7]) $$ [Hsig]
  · isplitr; · iexact HR
    iexact Hsig
  iintro %r2 Hsig
  iapply (part3_run m K c) $$ [Hsig Hcr Hb]
  · isplitr; · iexact HR
    isplitl [Hsig]; · iexact Hsig
    isplitr; · iexact Hl
    isplitl [Hcr] <;> iassumption
  iintro %r3 ⟨HO, Hzb, Hlent⟩
  ihave Hs := (ready m c) $$ [HO Hlent Hrest]
  · isplitl [HO]; · iexact HO
    isplitl [Hlent] <;> iassumption
  iapply (part4_run m K c [2, 3, 4, 5, 6, 7]) $$ [Hs]
  · isplitr; · iexact HR
    iexact Hs
  iintro %r4 ⟨Hs, Hd1⟩
  iapply (part5_run m K c [4, 5, 6, 7]) $$ [Hs]
  · isplitr; · iexact HR
    iexact Hs
  iintro %r5 ⟨Hs, Hd2, Hd3⟩
  iapply (part6_run m K c [5, 6, 7]) $$ [Hs]
  · isplitr; · iexact HR
    iexact Hs
  iintro %r6 ⟨Hs, Hd4⟩
  iapply (part7_run m K c [7]) $$ [Hs]
  · isplitr; · iexact HR
    iexact Hs
  iintro %r7 ⟨Hs, Hd5, Hd6⟩
  iapply (part8_run m K c) $$ [Hs Hx0 Hw Hf]
  · isplitr; · iexact HR
    isplitl [Hs]; · iexact Hs
    isplitl [Hx0]; · iexact Hx0
    isplitl [Hw] <;> iassumption
  iintro %r8 ⟨HO, Hd7, Hx0, Hw, Hf⟩
  iapply (part9_run m K c [3, 4, 5, 6, 7]) $$ [HO Hin Hw]
  · isplitr; · iexact HR
    isplitl [HO Hin]; · unfold arriving; isplitl [HO] <;> iassumption
    iexact Hw
  iintro %a9 %b9 %d9 ⟨Ha, Hw, Hi1, Hs1, Hi2, Hs2⟩
  iapply (part10_run m K c [4, 5, 6, 7]) $$ [Ha Hw Hs2]
  · isplitr; · iexact HR
    isplitl [Ha]; · iexact Ha
    isplitl [Hw] <;> iassumption
  iintro %a10 ⟨Ha, Hw, Hs2, Hi3, Hs3⟩
  iapply (part11_run m K c [5, 6, 7]) $$ [Ha Hw Hs3]
  · isplitr; · iexact HR
    isplitl [Ha]; · iexact Ha
    isplitl [Hw] <;> iassumption
  iintro ⟨Ha, Hw, Hs3, Hi4, Hs4⟩
  iapply (part12_run m K c [6, 7]) $$ [Ha Hw]
  · isplitr; · iexact HR
    isplitl [Ha] <;> iassumption
  iintro ⟨Ha, Hw, Hi5, Hs5⟩
  iapply (part13_run m K c []) $$ [Ha Hw]
  · isplitr; · iexact HR
    isplitl [Ha] <;> iassumption
  iintro %a13 %b13 %d13 ⟨Ha, Hw, Hi6, Hs6, Hi7, Hs7⟩
  unfold arriving
  icases Ha with ⟨HO, -⟩
  iapply (part14_run m K c) $$ [HO Hw Hs7 Hd1 Hd2]
  · isplitr; · iexact HR
    isplitl [HO]; · iexact HO
    isplitl [Hw]; · iexact Hw
    isplitl [Hs7]; · iexact Hs7
    isplitl [Hd1] <;> iassumption
  iintro ⟨HO, Hw, Hs7, Ho1, Hx1, Ho2, Hx2⟩
  iapply (part15_run m K c) $$ [HO Hd3 Hd4 Hd5 Hd6 Hd7 Hsx Hsw]
  · isplitr; · iexact HR
    isplitl [HO]; · iexact HO
    isplitl [Hd3]; · iexact Hd3
    isplitl [Hd4]; · iexact Hd4
    isplitl [Hd5]; · iexact Hd5
    isplitl [Hd6]; · iexact Hd6
    isplitl [Hd7]; · iexact Hd7
    isplitl [Hsx] <;> iassumption
  iintro ⟨HO, Ho3, Hx3, Ho4, Hx4, Ho5, Hx5, Ho6, Hx6, Ho7, Hx7, Hsx, Hsw⟩
  simp only [Prog.lift, Prog.bind_op, Prog.bind_ret, Prog.pure_eq_ret]
  iapply (wp_load 𝒱₀ (c : Thread nD τ) none Set.univ (m := oM) (Finset.subset_univ _)) $$ Hout; iintro Hout
  iapply (wp_store 𝒱₀ (c : Thread nD τ) none Set.univ (m := oM)
    (r := Rect.unit (s := S512x2048) ![0, 0] S512x2048.size inb_S512x2048_S512x2048_0_0) (Mk := Finset.univ) (Finset.subset_univ _)) $$ Hout
  iintro Hout
  rw [write_result, wp_ret]
  imod (close_idle m K c (.inl 0) (Or.inl rfl)) $$ [Ho0] with Ho0
  · isplitr; · iexact HR
    iexact Ho0
  imod (close_idle m K c (.inr 0) (Or.inr rfl)) $$ [Hi0] with Hi0
  · isplitr; · iexact HR
    iexact Hi0
  imodintro
  iapply Hend
  unfold bodyOut Φ₁
  ihave Hall := (gather m c) $$ [Ho0 Hi0 Hx0 Hs0 Ho1 Hi1 Hx1 Hs1 Ho2 Hi2 Hx2 Hs2 Ho3 Hi3 Hx3 Hs3 Ho4 Hi4 Hx4 Hs4 Ho5 Hi5 Hx5 Hs5 Ho6 Hi6 Hx6 Hs6 Ho7 Hi7 Hx7 Hs7]
  · rw [all_list]
    isplitl [Ho0 Hi0 Hx0 Hs0]
    · unfold back
      rw [fwd_zero]
      isplitl [Ho0 Hi0]; · isplitl [Ho0] <;> iassumption
      isplitl [Hx0] <;> iassumption
    isplitl [Ho1 Hi1 Hx1 Hs1]; · iapply (back_intro m c 1); isplitl [Ho1]; iexact Ho1; isplitl [Hi1]; iexact Hi1; isplitl [Hx1] <;> iassumption
    isplitl [Ho2 Hi2 Hx2 Hs2]; · iapply (back_intro m c 2); isplitl [Ho2]; iexact Ho2; isplitl [Hi2]; iexact Hi2; isplitl [Hx2] <;> iassumption
    isplitl [Ho3 Hi3 Hx3 Hs3]; · iapply (back_intro m c 3); isplitl [Ho3]; iexact Ho3; isplitl [Hi3]; iexact Hi3; isplitl [Hx3] <;> iassumption
    isplitl [Ho4 Hi4 Hx4 Hs4]; · iapply (back_intro m c 4); isplitl [Ho4]; iexact Ho4; isplitl [Hi4]; iexact Hi4; isplitl [Hx4] <;> iassumption
    isplitl [Ho5 Hi5 Hx5 Hs5]; · iapply (back_intro m c 5); isplitl [Ho5]; iexact Ho5; isplitl [Hi5]; iexact Hi5; isplitl [Hx5] <;> iassumption
    isplitl [Ho6 Hi6 Hx6 Hs6]; · iapply (back_intro m c 6); isplitl [Ho6]; iexact Ho6; isplitl [Hi6]; iexact Hi6; isplitl [Hx6] <;> iassumption
    iapply (back_intro m c 7); isplitl [Ho7]; iexact Ho7; isplitl [Hi7]; iexact Hi7; isplitl [Hx7] <;> iassumption
  icases Hall with ⟨Hz, Hx, Hcomm⟩
  isplitl [Hcomm Hf Hz Hzb]
  · isplitl [Hcomm]; · iexact Hcomm
    isplitl [Hf]; · iexact Hf
    isplitl [Hz] <;> iassumption
  isplitl [HO]; · iexact HO
  isplitl [Hx]; · iexact Hx
  isplitl [Hw]; · iexact Hw
  isplitl [Hsx]; · iexact Hsx
  isplitl [Hsw]; · iexact Hsw
  iexact Hout

end Cert.Kernel.Swap
-- ==== Proof.Run.lean ====
/-
# The launch

The whole machine's run: from any memory with every counter at zero, all eight devices run the
kernel to its end, whatever the order of their steps. The launch shares out the right to wait, to
signal and to send among the devices, and every device's body takes it from there.
-/
module

public import proofs.«01_k».proof.Proof.Body
public import Idealize.ShloMosaic.Lib.Pipeline.CollectiveSegs

@[expose] public section

noncomputable section

namespace Cert.Kernel.Swap

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

/-- A staged block held whole, and its contents. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Every window's block is fetched at the one point. -/
theorem fetched (w : Fin 5) (hw : w ≠ 4) : (cfg0.win w).fetch t0_0 = true := by
  revert hw; fin_cases w <;> intro h <;> first | rfl | exact absurd rfl h

set_option maxRecDepth 4000 in
/-- On each device, the body runs as the launch asks. -/
theorem body_obligation (c : Dev nD) : BodyObligation (dats (F := F) m 0 c) (defs₀ (F := F)) 𝒱₀ () Set.univ := fun t => by
  rw [fin_N0 t]
  rw [bigSep_W0, bigSep_W0]
  simp only [owns_stage]
  show iprop(Φ₀ m c ∗ (dats m 0 c).owesAt () (t0_0).castSucc
      ∗ (∃ d, stg c cc0_stg0_0 ((dats m 0 c).before (0 : Fin 5) t0_0 d))
      ∗ (∃ d, stg c cc0_stg1_0 ((dats m 0 c).before (1 : Fin 5) t0_0 d))
      ∗ (∃ d, stg c cc0_stg2_0 ((dats m 0 c).before (2 : Fin 5) t0_0 d))
      ∗ (∃ d, stg c cc0_stg3_0 ((dats m 0 c).before (3 : Fin 5) t0_0 d))
      ∗ (∃ d, stg c cc0_stg4_0 ((dats m 0 c).before (4 : Fin 5) t0_0 d)))
    ⊢ run c (onBufs (cc0_body (F := F))) (fun _ =>
      iprop(Φ₁ c ∗ (dats m 0 c).owesAt () (t0_0).succ ∗ stg c cc0_stg0_0 (xAt m c) ∗ stg c cc0_stg1_0 (wAt m c)
        ∗ stg c cc0_stg2_0 (sxAt m c) ∗ stg c cc0_stg3_0 (swAt m c) ∗ stg c cc0_stg4_0 (outAt m c)))
  unfold Φ₀ start Dat.owesAt Pipeline.owesWithin
  rw [show (dats m 0 c).owed (t0_0).castSucc = dueBar c order from rfl, show (dats m 0 c).owed (t0_0).succ = 0 from rfl]
  iintro ⟨⟨⟨⟨%K, HR⟩, Hk, Hl⟩, Hcomm, Hf⟩, ⟨%W, -, HO⟩, ⟨%d0, %g0, %h0, H0⟩, ⟨%d1, %g1, %h1, H1⟩, ⟨%d2, %g2, %h2, H2⟩, ⟨%d3, %g3, %h3, H3⟩, ⟨%d4, %g4, -, H4⟩⟩
  have e0 : g0 = xAt m c := by rw [h0]; unfold Dat.before; rw [if_pos (fetched 0 (by decide))]; rfl
  have e1 : g1 = wAt m c := by rw [h1]; unfold Dat.before; rw [if_pos (fetched 1 (by decide))]; rfl
  have e2 : g2 = sxAt m c := by rw [h2]; unfold Dat.before; rw [if_pos (fetched 2 (by decide))]; rfl
  have e3 : g3 = swAt m c := by rw [h3]; unfold Dat.before; rw [if_pos (fetched 3 (by decide))]; rfl
  subst e0 e1 e2 e3
  iapply (body_run m K c)
  isplitl
  · unfold bodyIn wP sxP swP owing
    isplitl [HR]; · iexact HR
    isplitl [Hl]; · iexact Hl
    isplitl [Hk]; · iexact Hk
    isplitl [Hcomm]; · iexact Hcomm
    isplitl [Hf]; · iexact Hf
    isplitl [HO]; · iexists W; iexact HO
    isplitl [H0]; · iexact H0
    isplitl [H1]; · iexact H1
    isplitl [H2]; · iexact H2
    isplitl [H3]; · iexact H3
    iexists g4; iexact H4
  · unfold bodyOut wP sxP swP owing
    iintro ⟨HΦ, ⟨%W', HO⟩, H0, H1, H2, H3, H4⟩
    isplitl [HΦ]; · iexact HΦ
    isplitl [HO]
    · iexists W'
      isplitr; · ipureintro; exact fun _ _ => Or.inl trivial
      iexact HO
    isplitl [H0]; · iexists _; isplitr; · (ipureintro; rfl)
                    iexact H0
    isplitl [H1]; · iexists _; isplitr; · (ipureintro; rfl)
                    iexact H1
    isplitl [H2]; · iexists _; isplitr; · (ipureintro; rfl)
                    iexact H2
    isplitl [H3]; · iexists _; isplitr; · (ipureintro; rfl)
                    iexact H3
    iexists _; isplitr; · (ipureintro; rfl)
    iexact H4

/-! ## Sharing out the rights -/

/-- The kernel's own semaphores are scoped to it, distinct, and none of the pipeline's. -/
theorem ownSemFacts : Pipeline.OwnSemFacts cfg0.spec ownSem := by decide

/-- Every share is the whole. -/
theorem share_full (c : Dev nD) (w : Fin cfg0.W) : (dats m 0 c).share w = fullShare := by unfold Dat.share; split <;> rfl

/-- Every semaphore of the exchange. -/
def cells : Finset (GSem nD τ sig) := Finset.univ.map ⟨cell, cell_inj⟩

/-- The payments of one round: each barrier is paid at every offset, each departure and arrival once. -/
abbrev payment (x : Dev nD × (Fin 8 ⊕ (Fin 8 ⊕ Fin 8))) : GSem nD τ sig × ℕ × Fin 8 :=
  match x.2 with
  | .inl k => (barC x.1, 0, k)
  | .inr s => (cell (x.1, .inr s), 0, 0)

/-- Distinct payments are distinct. -/
theorem payment_inj : Function.Injective payment := by
  rintro ⟨c, k | s⟩ ⟨d, j | t⟩ h
  · have hc := congrArg Prod.fst (cell_inj (congrArg Prod.fst h))
    have hk : k = j := congrArg (fun x => x.2.2) h
    subst hk; exact Prod.ext hc rfl
  · exact absurd (congrArg Prod.snd (cell_inj (congrArg Prod.fst h))) (by simp)
  · exact absurd (congrArg Prod.snd (cell_inj (congrArg Prod.fst h))) (by simp)
  · have hp := cell_inj (congrArg Prod.fst h)
    have hs : s = t := Sum.inr.inj (congrArg Prod.snd hp)
    have hc : c = d := congrArg Prod.fst hp
    rw [hs, hc]

/-- The payments of the launch. -/
def payments : Finset (GSem nD τ sig × ℕ × Fin 8) := Finset.univ.map ⟨payment, payment_inj⟩

/-- The state of the two protocols, the staging's and the exchange's, before anything runs. -/
def u₀ : UU :=
  (initOf (Pipeline.cells cfgs cellOf_inj) (Pipeline.launchToks cfgs cellOf_inj), initOf cells payments)

/-- The payments due on device `c`'s own semaphores. -/
def dueOn (c : Dev nD) : sProp 𝕄 :=
  iprop((bigSep Finset.univ fun k : Fin 8 => dutyTok EX (barC c) 0 k)
    ∗ (bigSep Finset.univ fun k : Fin 8 => dutyTok EX (outC c k) 0 0) ∗ bigSep Finset.univ fun k : Fin 8 => dutyTok EX (inC c k) 0 0)
/-- The payments that device `c` makes. -/
def dueBy (c : Dev nD) : sProp 𝕄 :=
  iprop((bigSep Finset.univ fun k : Fin 8 => dutyTok EX (barC (fwd c k)) 0 (-k))
    ∗ (bigSep Finset.univ fun k : Fin 8 => dutyTok EX (outC c k) 0 0) ∗ bigSep Finset.univ fun k : Fin 8 => dutyTok EX (inC (fwd c k) k) 0 0)
/-- Device `c` stands before the one round of each of its semaphores. -/
def stands (c : Dev nD) : sProp 𝕄 := bigSep Finset.univ fun q : CK => atPos EX (cell (c, q)) 0 ∅ 0

/-- What the launch hands device `c`. -/
def G (c : Dev nD) : sProp 𝕄 :=
  iprop((bigSep Finset.univ fun q : CK => roundState EX (plan m) (cell (c, q)) 0)
    ∗ (bigSep Finset.univ fun q : CK => reached EX (cell (c, q)) 0) ∗ stands c ∗ dueOn c)
/-- What device `c` has once the devices have shared out the payments. -/
def G' (c : Dev nD) : sProp 𝕄 := iprop((∃ K, records m K) ∗ stands c ∗ dueBy c)

/-- The launch's state, cut into the devices' parts. -/
theorem fund_exchange : BI.own (EX (initOf cells payments)) ⊢ (|==> bigSep Finset.univ (G m) : sProp 𝕄) := by
  have hC (Φ : GSem nD τ sig → sProp 𝕄) : bigSep cells Φ = bigSep Finset.univ fun c : Dev nD => bigSep Finset.univ fun q : CK => Φ (cell (c, q)) := by
    unfold cells; rw [bigSep_map, bigSep_univ_prod]; rfl
  have hP : bigSep payments (fun x => (dutyTok EX x.1 x.2.1 x.2.2 : sProp 𝕄)) = bigSep Finset.univ fun c : Dev nD => dueOn c := by
    unfold payments; rw [bigSep_map, bigSep_univ_prod]
    refine bigSep_congr fun c _ => ?_
    unfold dueOn; rw [bigSep_univ_sum, bigSep_univ_sum]; rfl
  iintro H
  imod (Rounds.fund EX (plan m) cells payments) $$ H with ⟨Hst, Hr, Hat, Hp⟩
  imodintro
  ihave Hst := (Entails.of_eq (hC fun g => roundState EX (plan m) g 0)) $$ Hst
  ihave Hr := (Entails.of_eq (hC fun g => reached EX g 0)) $$ Hr
  ihave Hat := (Entails.of_eq (hC fun g => atPos EX g 0 ∅ 0)) $$ Hat
  ihave Hp := (Entails.of_eq hP) $$ Hp
  unfold G stands; simp only [bigSep_sep']
  isplitl [Hst]; · iexact Hst
  isplitl [Hr]; · iexact Hr
  isplitl [Hat]; · iexact Hat
  iexact Hp

/-- The machine has one semaphore outside the launch's scope, the barrier. -/
theorem barrier_alone (c : Dev nD) : (unscopedSems0 c : sProp 𝕄) = semVal (barC c) 0 := by
  unfold unscopedSems0; rw [bigSep_eq_bigSepL_of_eq [SemLoc.reg barS] (by decide) (by decide)]; rfl

/-- A sum over the one-point type is its one term. -/
theorem one_point (Φ : Unit → sProp 𝕄) : bigSep Finset.univ Φ = Φ () :=
  bigSep_univ_eq_bigSepL [()] (by decide) (by decide) Φ

/-- Terms over two kinds of index are those over the one and those over the other. -/
theorem two_kinds {A B : Type} [Fintype A] [Fintype B] (Φ : A ⊕ B → sProp 𝕄) :
    bigSep Finset.univ Φ = iprop(bigSep Finset.univ (fun a => Φ (.inl a)) ∗ bigSep Finset.univ (fun b => Φ (.inr b))) :=
  bigSep_univ_sum Φ

/-- A barrier is no other semaphore. -/
theorem bar_ne (c d : Dev nD) (s : Fin 8 ⊕ Fin 8) : barC c ≠ cell (d, .inr s) := fun h =>
  absurd (congrArg Prod.snd (cell_inj h)) Sum.inl_ne_inr

/-- A device's counters are the kernel's own and the barrier. -/
theorem all_counts (c : Dev nD) :
    iprop(Pipeline.ownSems0 (Ix := Unit) (Name := ℕ) (U := UU) (Lvl := ℕ) (Val := Elt F) (τ := τ) ownSem c ∗ semVal (barC c) 0)
      ⊢ (bigSep Finset.univ fun q : CK => semVal (cell (c, q)) 0 : sProp 𝕄) := by
  rw [two_kinds, one_point,
    show Pipeline.ownSems0 ownSem c = (bigSep Finset.univ fun j : Fin 8 ⊕ Fin 8 => semVal (cell (c, .inr j)) 0 : sProp 𝕄) from rfl]
  iintro ⟨Ho, Hb⟩
  isplitl [Hb]; · iexact Hb
  iexact Ho

/-- Each device opens its semaphores for the exchange. -/
theorem open_cells (c : Dev nD) :
    iprop(Pipeline.ownSems0 (Ix := Unit) (Name := ℕ) (U := UU) (Lvl := ℕ) (Val := Elt F) (τ := τ) ownSem c ∗ unscopedSems0 c ∗ G m c)
      ⊢ |={Set.univ}=> iprop((bigSep Finset.univ fun q => iprop(∃ κ : ℕ, cellInv EX (plan m) κ (cell (c, q))))
          ∗ (bigSep Finset.univ fun q : CK => reached EX (cell (c, q)) 0) ∗ stands c ∗ dueOn c) := by
  unfold G
  rw [barrier_alone]
  iintro ⟨Hown, Hbar, Hst, Hrest⟩
  imod (show iprop((bigSep Finset.univ fun q : CK => semVal (cell (c, q)) 0) ∗ bigSep Finset.univ fun q : CK => roundState EX (plan m) (cell (c, q)) 0)
      ⊢ (|={Set.univ}=> bigSep Finset.univ fun q => iprop(∃ κ : ℕ, cellInv EX (plan m) κ (cell (c, q))) : sProp 𝕄) from by
        rw [← bigSep_sep']
        exact (bigSep_mono fun q _ => (Rounds.body_intro EX (plan m) (cell (c, q))).trans inv_alloc).trans (bigSep_fupd _ _)) $$ [Hown Hbar Hst] with Hinv
  · isplitl [Hbar Hown]
    · iapply (all_counts c)
      isplitl [Hown] <;> iassumption
    iexact Hst
  imodintro
  isplitl [Hinv]; · iexact Hinv
  iexact Hrest

/-- Every pair of a device and an offset is reached once going by that offset. -/
def turnAll : Dev nD × Fin 8 ≃ Dev nD × Fin 8 where
  toFun p := (fwd p.1 p.2, p.2)
  invFun p := (bwd p.1 p.2, p.2)
  left_inv p := Prod.ext (bwd_fwd p.1 p.2) rfl
  right_inv p := Prod.ext (fwd_bwd p.1 p.2) rfl

/-- The same, with the offset seen from the other end. -/
def turnBack : Dev nD × Fin 8 ≃ Dev nD × Fin 8 := turnAll.trans ((Equiv.refl _).prodCongr flip)

/-- Terms over devices and offsets, taken in another order. -/
theorem reorder (e : Dev nD × Fin 8 ≃ Dev nD × Fin 8) (Φ : Dev nD × Fin 8 → sProp 𝕄) :
    (bigSep Finset.univ fun c => bigSep Finset.univ fun k => Φ (c, k)) = bigSep Finset.univ fun c => bigSep Finset.univ fun k => Φ (e (c, k)) := by
  rw [← bigSep_univ_prod, bigSep_univ_equiv e, bigSep_univ_prod]

/-- The payments due on all devices are those that all devices make. -/
theorem share_payments : (bigSep Finset.univ fun c : Dev nD => (dueOn c : sProp 𝕄)) ⊢ bigSep Finset.univ fun c : Dev nD => dueBy c := by
  unfold dueOn dueBy
  rw [bigSep_sep', bigSep_sep', bigSep_sep', bigSep_sep',
    reorder turnBack fun p => (dutyTok EX (barC p.1) 0 p.2 : sProp 𝕄),
    reorder turnAll fun p => (dutyTok EX (inC p.1 p.2) 0 0 : sProp 𝕄)]
  exact BI.Entails.refl _

/-- Something persistent goes to every member. -/
theorem give_all {I : Type} [DecidableEq I] (S : Finset I) (R : sProp 𝕄) [BI.Persistent R] (Φ : I → sProp 𝕄) :
    iprop(R ∗ bigSep S Φ) ⊢ bigSep S fun i => iprop(R ∗ Φ i) := by
  rw [bigSep_sep']
  iintro ⟨#HR, H⟩
  isplitr; · iapply (BI.bigSep_of_persistent S R); iexact HR
  iexact H

/-- A device with the records and its rights is ready. -/
theorem keep_records (K : Dev nD × CK → ℕ) (c : Dev nD) : iprop(records m K ∗ stands c ∗ dueBy c) ⊢ (G' m c : sProp 𝕄) := by
  unfold G'
  iintro ⟨HR, H⟩
  isplitl [HR]; · iexists K; iexact HR
  iexact H

/-- The devices put their records together and share out the payments. -/
theorem share_out :
    (bigSep Finset.univ fun c : Dev nD => iprop((bigSep Finset.univ fun q => iprop(∃ κ : ℕ, cellInv EX (plan m) κ (cell (c, q))))
          ∗ (bigSep Finset.univ fun q : CK => reached EX (cell (c, q)) 0) ∗ stands c ∗ dueOn c) : sProp 𝕄)
      ⊢ bigSep Finset.univ (G' m) := by
  rw [bigSep_sep', bigSep_sep', bigSep_sep', ← bigSep_univ_prod (fun p : Dev nD × CK => iprop(∃ κ : ℕ, cellInv EX (plan m) κ (cell p))),
    ← bigSep_univ_prod (fun p : Dev nD × CK => (reached EX (cell p) 0 : sProp 𝕄))]
  iintro ⟨HI, #HR, Hst, Hdue⟩
  ihave HK := (BI.bigSep_exists_pi Finset.univ (fun (p : Dev nD × CK) (κ : ℕ) => (cellInv EX (plan m) κ (cell p) : sProp 𝕄))) $$ HI
  icases HK with ⟨%K, #HI⟩
  ihave Hdue := share_payments $$ Hdue
  iapply ((give_all Finset.univ (records m K) fun c : Dev nD => iprop(stands c ∗ dueBy c)).trans (bigSep_mono fun c _ => keep_records m K c))
  isplitr
  · unfold records; isplitl; · iexact HI
    iexact HR
  rw [bigSep_sep']
  isplitl [Hst] <;> iassumption

/-- All devices together pass from the launch's state to the exchange's. -/
theorem all_ready : (bigSep Finset.univ fun c => iprop(Pipeline.ownSems0 (Ix := Unit) (Name := ℕ) (U := UU) (Lvl := ℕ) (Val := Elt F) (τ := τ) ownSem c ∗ unscopedSems0 c ∗ G m c) : sProp 𝕄)
    ⊢ |={Set.univ}=> bigSep Finset.univ (G' m) :=
  ((bigSep_mono fun c _ => open_cells m c).trans (bigSep_fupd _ _)).trans (BI.fupd_mono (share_out m))

/-! ## What each device may wait for -/

/-- What a device owes another's barrier: one signal at the offset between them. -/
theorem owed_bar (d c : Dev nD) (l : List (Fin 8)) :
    dueBar d l (barC c) () = (l.map fun k => if fwd d k = c then 1 else 0).sum := by
  have h0 (l' : List (Fin 8)) : dueIn d l' (barC c) () = 0 := by
    rcases Nat.eq_zero_or_pos (dueIn d l' (barC c) ()) with h | h
    · exact h
    · obtain ⟨k, hk⟩ := dueIn_pos h
      exact absurd hk (bar_ne _ _ _)
  induction l with
  | nil => exact h0 _
  | cons k l ih =>
    rw [dueBar, Pi.add_apply, Finsupp.add_apply, tallyAt_apply, ih, List.map_cons, List.sum_cons, Nat.add_comm]
    congr 1
    refine if_congr ⟨fun h => ((congrArg Prod.fst (cell_inj h.1)).symm), fun h => ⟨by rw [h], rfl⟩⟩ rfl rfl

/-- What a device owes another's arrivals: one slab at the offset between them. -/
theorem owed_in (d c : Dev nD) (j : Fin 8) (l : List (Fin 8)) :
    dueIn d l (inC c j) () = N * (l.map fun k => if fwd d k = c ∧ k = j then 1 else 0).sum := by
  induction l with
  | nil => rfl
  | cons k l ih =>
    rw [dueIn, Pi.add_apply, Finsupp.add_apply, tallyAt_apply, ih, List.map_cons, List.sum_cons, Nat.mul_add, Nat.add_comm]
    congr 1
    rw [mul_ite, Nat.mul_one, Nat.mul_zero]
    refine if_congr ⟨fun h => ?_, fun h => ⟨by rw [h.1, h.2], rfl⟩⟩ rfl rfl
    have hp := cell_inj h.1
    exact ⟨(congrArg Prod.fst hp).symm, (Sum.inr.inj (Sum.inr.inj (congrArg Prod.snd hp))).symm⟩

/-- The signals owed take nothing from the arrivals. -/
theorem owed_bar_in (d c : Dev nD) (j : Fin 8) (l : List (Fin 8)) : dueBar d l (inC c j) () = dueIn d order (inC c j) () := by
  induction l with
  | nil => rfl
  | cons k l ih =>
    rw [dueBar, Pi.add_apply, Finsupp.add_apply, ih, tallyAt_apply,
      if_neg (fun h => bar_ne _ _ _ h.1.symm), Nat.add_zero]

/-- What the devices owe at the launch. -/
abbrev O₀ (c : Dev nD) : CellTallies nD τ sig Unit := dueBar c order

/-- Seven signals are owed to each barrier. -/
theorem credit_bar (c : Dev nD) :
    tallyOn (barC c) (launchCredit (Pipeline.owing O₀) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun d _ => owed_bar d c order]
  revert c; decide

/-- One slab is owed to each arrival. -/
theorem credit_in (c : Dev nD) (j : Fin 8) (hj : j ∈ offs) :
    tallyOn (inC c j) (launchCredit (Pipeline.owing O₀) 0 (inC c j)) = (tallyAt (inC c j) () N : CellTallies nD τ sig Unit) := by
  unfold tallyAt; refine congrArg _ (Finsupp.ext fun u => ?_); cases u
  rw [Pipeline.launchCredit_owing, Finsupp.single_eq_same, Finset.sum_congr rfl fun d _ => (owed_bar_in d c j order).trans (owed_in d c j order),
    ← Finset.mul_sum, show (∑ d : Dev nD, (order.map fun k => if fwd d k = c ∧ k = j then 1 else 0).sum) = 1 by revert c j; decide, Nat.mul_one]

/-- Of terms over a whole type, those over a part of it. -/
theorem some_of {I : Type} [Fintype I] [DecidableEq I] (S : Finset I) (Φ : I → sProp 𝕄) : bigSep Finset.univ Φ ⊢ bigSep S Φ :=
  bigSep_subset (Finset.subset_univ S)

/-- The credit of a device's waits, out of what all devices owe. -/
theorem credits (c : Dev nD) :
    (Pipeline.launchCred O₀ c : sProp 𝕄) ⊢ iprop(cred (tallyAt (barC c) () 7) ∗ bigSep offs fun k => cred (tallyAt (inC c k) () N)) := by
  have e : bigSep (Finset.univ.map ⟨allSem, allSem_inj⟩) (fun sm => (cred (tallyOn (c.tc, sm) (launchCredit (Pipeline.owing O₀) 0 (c.tc, sm))) : sProp 𝕄))
      = iprop(cred (tallyOn (barC c) (launchCredit (Pipeline.owing O₀) 0 (barC c)))
        ∗ (bigSep Finset.univ fun k => cred (tallyOn (outC c k) (launchCredit (Pipeline.owing O₀) 0 (outC c k))))
        ∗ bigSep Finset.univ fun k => cred (tallyOn (inC c k) (launchCredit (Pipeline.owing O₀) 0 (inC c k)))) := by
    rw [bigSep_map, two_kinds, one_point, two_kinds]; rfl
  unfold Pipeline.launchCred
  iintro H
  ihave H := (some_of (Finset.univ.map ⟨allSem, allSem_inj⟩) _) $$ H
  ihave H := (Entails.of_eq e) $$ H
  icases H with ⟨Hb, -, Hi⟩
  rw [credit_bar]
  isplitl [Hb]; · iexact Hb
  rw [show (bigSep offs fun k => (cred (tallyAt (inC c k) () N) : sProp 𝕄)) = bigSep offs fun k => cred (tallyOn (inC c k) (launchCredit (Pipeline.owing O₀) 0 (inC c k)))
    from bigSep_congr fun k hk => congrArg cred (credit_in c k hk).symm]
  iapply (some_of offs fun k => (cred (tallyOn (inC c k) (launchCredit (Pipeline.owing O₀) 0 (inC c k))) : sProp 𝕄))
  iexact Hi

/-! ## The launch -/

/-- The rights of a device and its credit are what its body starts from. -/
theorem kits_intro (c : Dev nD) :
    (iprop(stands c ∗ dueBy c ∗ cred (tallyAt (barC c) () 7) ∗ bigSep offs fun k => cred (tallyAt (inC c k) () N)) : sProp 𝕄) ⊢ allKits c := by
  unfold allKits stands dueBy
  rw [show bigSep offs (offKit c) = (iprop((bigSep offs fun k => dutyTok EX (barC (fwd c k)) 0 (-k))
      ∗ ((bigSep offs fun k => dutyTok EX (outC c k) 0 0) ∗ bigSep offs fun k => dutyTok EX (inC (fwd c k) k) 0 0)
      ∗ ((bigSep offs fun k => cred (tallyAt (inC c k) () N)) ∗ bigSep offs fun k => atPos EX (inC c k) 0 ∅ 0)
      ∗ bigSep offs fun k => atPos EX (outC c k) 0 ∅ 0) : sProp 𝕄) by
    simp only [← bigSep_sep']; rfl]
  rw [two_kinds, one_point, two_kinds]
  iintro ⟨⟨Hb, Ho, Hi⟩, ⟨Tb, To, Ti⟩, Cb, Ci⟩
  ihave Ho := (Entails.of_eq (bigSep_univ_at (fun k => (atPos EX (outC c k) 0 ∅ 0 : sProp 𝕄)) 0)) $$ Ho
  ihave Hi := (Entails.of_eq (bigSep_univ_at (fun k => (atPos EX (inC c k) 0 ∅ 0 : sProp 𝕄)) 0)) $$ Hi
  icases Ho with ⟨Ho0, Ho⟩
  icases Hi with ⟨Hi0, Hi⟩
  isplitl [Hb]; · iexact Hb
  isplitl [Cb]; · iexact Cb
  isplitl [Ho0]; · iexact Ho0
  isplitl [Hi0]; · iexact Hi0
  isplitl [Tb]; · iapply (some_of offs fun k => (dutyTok EX (barC (fwd c k)) 0 (-k) : sProp 𝕄)); iexact Tb
  isplitl [To Ti]
  · isplitl [To]; · iapply (some_of offs fun k => (dutyTok EX (outC c k) 0 0 : sProp 𝕄)); iexact To
    iapply (some_of offs fun k => (dutyTok EX (inC (fwd c k) k) 0 0 : sProp 𝕄)); iexact Ti
  isplitl [Ci Hi]
  · isplitl [Ci] <;> iassumption
  iexact Ho

/-- From the launch to the start of the body. -/
theorem start_intro (c : Dev nD) :
    iprop(Pipeline.unscopedRestP Pipeline.Prefetch.none cfg0.spec c (fun b => m ((c : Thread nD τ).loc b)) ∗ levAts L rank
        ∗ Pipeline.launchCred O₀ c ∗ prngReg c (ρ c) ∗ G' m c)
      ⊢ |={Set.univ}=> iprop(start m c ∗ emp) := by
  unfold G' start
  iintro ⟨-, Hlev, Hcr, -, HK, Hst, Hdue⟩
  ihave Hcr := (credits c) $$ Hcr
  icases Hcr with ⟨Cb, Ci⟩
  imodintro
  isplitl
  · isplitl [HK]; · iexact HK
    isplitr [Hlev]
    · iapply (kits_intro c)
      isplitl [Hst]; · iexact Hst
      isplitl [Hdue]; · iexact Hdue
      isplitl [Cb] <;> iassumption
    iexact Hlev
  iempintro

/-- With its scratch buffers, a device may enter the body. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ commP firstP
  iintro ⟨Hs, -, Hc, Hf⟩
  isplitl [Hs]; · iexact Hs
  isplitl [Hc] <;> iassumption

/-- After the body a device gives everything back. -/
theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = Φ₁ c from rfl, scopedRest0_eq, barrier_alone,
    show Pipeline.ownSems0 ownSem c = (bigSep Finset.univ fun j : Fin 8 ⊕ Fin 8 => semVal (cell (c, .inr j)) 0 : sProp 𝕄) from rfl]
  unfold Φ₁ commP firstP
  iintro ⟨Hc, Hf, Hs, Hb⟩
  isplitl [Hb]; · iexact Hb
  isplitl [Hs]; · iexact Hs
  isplitl [Hc] <;> iassumption

/-- The staging may wait before and after the body. -/
theorem stage_waits (c : Dev nD) : (levAts L rank : sProp 𝕄) ⊢ Pipeline.cellsWaits cfgs (dats m) () 0 c :=
  Pipeline.cellsWaits_intro cfgs (dats m) () 0 c fun w s t =>
    mayWait_stage c _ (by revert c; fin_cases w <;> fin_cases s <;> decide) _ (by
      rcases t with ⟨_ | _, ht⟩
      · exact Or.inl rfl
      · exact Or.inr rfl)

/-- The machine at the start: memory `m`, every semaphore at zero. -/
def s₀ : MemSt nD τ sig (Elt F) := ⟨m, fun _ => 0, ρ⟩

/-- Every array of every device ends as the pipeline's data says. -/
def ends (r : PUnit × MemSt nD τ sig (Elt F)) : Prop :=
  ∀ (c : Dev nD) (w : Fin cfg0.W), r.2.mem ((cfg0.win w).arr.view.loc (c : Thread nD τ)) = (dats m 0 c).arrAt w cfg0.N

set_option maxRecDepth 8000 in
/-- On the mesh of eight devices, from any memory with every semaphore at zero: every fair run of the program ends,
    and then each device's arrays hold what the data says and every semaphore is at zero. -/
theorem run_main : θ_run defs (onTc (τ := τ) (main (F := F))) (s₀ m ρ) (fun r => ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0)
    (hstage := stage_whole0) (hshare := share_full m) (hdistinct := winFacts0.arr_inj)
    (O₀ := O₀) (howed₀ := fun _ => rfl) (howedN := fun _ => rfl)
    (L := L) (lv := rank) (hL := L_of_ne) (hwaits := stage_waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := all_ready m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The run leaves a device's inputs as they were. -/
theorem input_kept (c : Dev nD) (w : Fin cfg0.W) (hw : (cfg0.win w).isOut = false) :
    (dats m 0 c).arrAt w cfg0.N = m ((cfg0.win w).arr.view.loc (c : Thread nD τ)) :=
  (dats m 0 c).arrAt_in w hw _

end Cert.Kernel.Swap
-- ==== Proof.Same.lean ====
/-
# The two printed programs are one

The idealized program is the kernel's own text. Everything that is shown of a run of the one, over any
float values, therefore holds of the other.
-/
module

public import proofs.«01_k».proof.Proof.Gen.KernelIdeal
public import proofs.«01_k».proof.Proof.Run

@[expose] public section

noncomputable section

namespace Cert.Same

open Idealize.ShloMosaic Idealize.SL.Sem

variable {F : FTy → Type} [FloatOps F]

/-- The two bodies are the same. -/
theorem defs₀_eq : Cert.KernelIdeal.defs₀ (F := F) = Cert.Kernel.defs₀ (F := F) := by
  unfold Cert.KernelIdeal.defs₀ Cert.Kernel.defs₀
  refine congrArg Defs.onTc (funext fun l => funext fun x => ?_)
  match l, x with
  | ⟨0, _⟩, (_, _) => rfl
  | ⟨n + 1, h⟩, _ => exact absurd h (Nat.not_lt.2 (Nat.le_add_left _ _))

/-- The two programs' definitions are the same. -/
theorem defs_eq : Cert.KernelIdeal.defs (F := F) = Cert.Kernel.defs (F := F) := by
  unfold Cert.KernelIdeal.defs Cert.Kernel.defs
  exact congrArg _ defs₀_eq

/-- The two programs run alike. -/
theorem run_eq :
    θ_run (Cert.KernelIdeal.defs (F := F)) (onTc (τ := Cert.KernelIdeal.τ) (Cert.KernelIdeal.main (F := F)))
      = θ_run (Cert.Kernel.defs (F := F)) (onTc (τ := Cert.Kernel.τ) (Cert.Kernel.main (F := F))) := by
  rw [defs_eq]; rfl

end Cert.Same

end
-- ==== Proof.Frames.lean ====
/-
# What a run leaves

The kernel's run, said of the program's own arrays: the arguments are unchanged, the result holds what each
device computed from the arguments, and every semaphore is back at zero.
-/
module

public import proofs.«01_k».proof.Proof.Same
public import Idealize.ShloMosaic.Lib.Pipeline.ValueKit

@[expose] public section

noncomputable section

namespace Cert.Kernel.Swap

open Cert.Kernel Cert.Kernel.Gen
open Idealize.ShloMosaic Idealize.ShloMosaic.TcCoe
open Idealize.SL.Sem

variable {F : FTy → Type} [FloatOps F] (m : (ℓ : Loc nD τ sig) → Buf (Elt F) ℓ) (ρ : Dev nD → PrngReg)

/-- The result array of a device ends holding what the device computed. -/
theorem output_is (c : Dev nD) : (dats m 0 c).arrAt 4 cfg0.N = outAt m c := by
  refine (dats m 0 c).arrAt_eq_of_after_last 4 t0_0 (by decide +kernel) _ fun j => ?_
  rfl

/-- A block that is a whole array of two axes reads as the array. -/
theorem xAt_is (c : Dev nD) : xAt m c = m ((c : Thread nD τ).loc main_arg0) :=
  Memref.read_access_unit_zero (Elt F) main_arg0 (funext fun a => by fin_cases a <;> rfl) _ _
/-- The weights a device holds are its second argument. -/
theorem wAt_is (c : Dev nD) : wAt m c = m ((c : Thread nD τ).loc main_arg1) :=
  Memref.read_access_unit_zero (Elt F) main_arg1 (funext fun a => by fin_cases a <;> rfl) _ _
/-- The first scale is the third argument. -/
theorem sxAt_is (c : Dev nD) : sxAt m c = m ((c : Thread nD τ).loc main_arg2) :=
  Memref.read_access_unit_zero (Elt F) main_arg2 (funext fun a => by fin_cases a <;> rfl) _ _
/-- The second scale is the fourth argument. -/
theorem swAt_is (c : Dev nD) : swAt m c = m ((c : Thread nD τ).loc main_arg3) :=
  Memref.read_access_unit_zero (Elt F) main_arg3 (funext fun a => by fin_cases a <;> rfl) _ _

/-- What a run of the kernel leaves on every device. -/
def leaves (r : PUnit × MemSt nD τ sig (Elt F)) : Prop :=
  ∀ c : Dev nD, r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

/-- Every run of the kernel leaves that, and every semaphore at zero. -/
theorem run_leaves :
    θ_run defs (onTc (τ := τ) (main (F := F))) ⟨m, fun _ => 0, ρ⟩ (fun r => leaves m r ∧ r.2.sem = fun _ => 0) :=
  (θ_run defs _ _).mono (fun _ h => ⟨fun c => ⟨(h.1 c 4).trans (output_is m c), (h.1 c 0).trans (input_kept m c 0 rfl),
    (h.1 c 1).trans (input_kept m c 1 rfl), (h.1 c 2).trans (input_kept m c 2 rfl), (h.1 c 3).trans (input_kept m c 3 rfl)⟩, h.2⟩)
    (run_main m ρ)

/-- The same of the idealized program. -/
theorem run_leaves_ideal :
    θ_run Cert.KernelIdeal.defs (onTc (τ := Cert.KernelIdeal.τ) (Cert.KernelIdeal.main (F := F))) ⟨m, fun _ => 0, ρ⟩
      (fun r => leaves m r ∧ r.2.sem = fun _ => 0) := by
  rw [Cert.Same.run_eq]; exact run_leaves m ρ

end Cert.Kernel.Swap

end
-- ==== Proof.BlockValue.lean ====
/-
# What a device computes

The words that a device sums up are, as integers, the products of its slabs with their rows of the weights. No
partial sum leaves the 32-bit range, so the sum of the eight words is the word of the sum of the eight integers,
and that sum is the whole row of the matrix product.
-/
module

public import proofs.«01_k».proof.Proof.Frames
public import Idealize.ShloMosaic.Lib.IntMxu
public import Idealize.ShloMosaic.Lib.ValueIdxCore
public import Idealize.ShloMosaic.Lib.Pointwise.Contract

@[expose] public section

noncomputable section

namespace Cert.Kernel.Swap

open Cert.Kernel Cert.Kernel.Gen
open Idealize.ShloMosaic Idealize.ShloMosaic.TcCoe
open Idealize.ShloMosaic.ValueIdx (eq_ix2)
open Idealize.SL.Sem

variable {F : FTy → Type} [FloatOps F] (m : (ℓ : Loc nD τ sig) → Buf (Elt F) ℓ)

/-- The product of a slab with its rows of the weights, as integers. -/
def part (c b : Dev nD) (j : S512x2048.Idx) : ℤ :=
  dotI8 dot_S512x512_S512x2048_S512x2048_1_0_0_1_n_n (slabOf m b c) (rowsOf m c b) j

/-- The matrix unit's word for such a product is the word of the integer. -/
theorem product_word (l : IVec S512x512 8) (r : IVec S512x2048 8) (j : S512x2048.Idx) :
    matmulI8 IntMxuNumerics.v7x dot_S512x512_S512x2048_S512x2048_1_0_0_1_n_n l r (constantI S512x2048 32 0#32) j
      = BitVec.ofInt 32 (dotI8 dot_S512x512_S512x2048_S512x2048_1_0_0_1_n_n l r j) :=
  matmulI8_exact_of_numel _ _ _ _ _ _ rfl (by decide)

/-- The device's own slab gives the first word. -/
theorem first_word (c : Dev nD) (j : S512x2048.Idx) : acc1 m c j = BitVec.ofInt 32 (part m c c j) := by
  unfold acc1 k0_pay2
  simp only [shapeCast_self]
  exact product_word _ _ j

/-- Each slab that arrives adds its integer. -/
theorem next_word (c : Dev nD) (k : Fin 8) {acc : IVec S512x2048 32} {S : S512x2048.Idx → ℤ}
    (h : ∀ j, acc j = BitVec.ofInt 32 (S j)) (j : S512x2048.Idx) :
    k0_pay3 (F := F) acc (landed m c k) (rowsOf m c (bwd c k)) j = BitVec.ofInt 32 (S j + part m c (bwd c k) j) := by
  unfold k0_pay3 landed
  simp only [shapeCast_shapeCast, shapeCast_self]
  rw [BitVec.ofInt_add, ← h j]
  exact congrArg (acc j + ·) (product_word _ _ j)

/-- The steps of the sum differ in nothing but how many they take at once. -/
theorem steps_alike :
    k0_pay4 (F := F) = k0_pay3 (F := F) ∧ k0_pay6 (F := F) = k0_pay3 (F := F) ∧ k0_pay7 (F := F) = k0_pay3 (F := F)
      ∧ k0_pay8 (F := F) = k0_pay3 (F := F)
      ∧ ∀ a l r l' r', k0_pay5 (F := F) a l r l' r' = k0_pay3 (k0_pay3 (F := F) a l r) l' r' :=
  ⟨rfl, rfl, rfl, rfl, fun _ _ _ _ _ => rfl⟩

/-- The device's sum is the word of the sum of the eight integers. -/
theorem sum_word (c : Dev nD) (j : S512x2048.Idx) : acc8 m c j = BitVec.ofInt 32 (∑ k : Fin 8, part m c (bwd c k) j) := by
  obtain ⟨h4, h6, h7, h8, h5⟩ := steps_alike (F := F)
  unfold acc8 acc7 acc6 acc5 acc3 acc2
  rw [h4, h6, h7, h8, h5, Fin.sum_univ_eight, show bwd c 0 = c from by revert c; decide]
  exact next_word m c 7 (next_word m c 6 (next_word m c 5 (next_word m c 4 (next_word m c 3 (next_word m c 2 (next_word m c 1
    (first_word m c))))))) j

/-- The eight slabs come from all eight devices. -/
theorem all_parts (c : Dev nD) (j : S512x2048.Idx) : (∑ k : Fin 8, part m c (bwd c k) j) = ∑ b : Fin 8, part m c b j :=
  Equiv.sum_comp (⟨fun k => bwd c k, fun b => bwd c b, by intro k; revert c k; decide, by intro k; revert c k; decide⟩ : Fin 8 ≃ Fin 8)
    fun b => part m c b j

/-- A product is within 2²³ of zero. -/
theorem part_small (c b : Dev nD) (j : S512x2048.Idx) : |part m c b j| ≤ 2 ^ 23 := by
  have h := (natAbs_dotI8_le dot_S512x512_S512x2048_S512x2048_1_0_0_1_n_n (slabOf m b c) (rowsOf m c b) j).trans (absDotI8_le_numel _ _ _ _)
  have hn : (dot_S512x512_S512x2048_S512x2048_1_0_0_1_n_n).contr.numel * 2 ^ 14 = 2 ^ 23 := by decide
  rw [hn] at h
  unfold part
  rw [Int.abs_eq_natAbs]
  exact_mod_cast h

/-- The word read back is the sum: it never left the 32-bit range. -/
theorem sum_read (c : Dev nD) (j : S512x2048.Idx) : (acc8 m c j).toInt = ∑ b : Fin 8, part m c b j := by
  rw [sum_word, all_parts, BitVec.toInt_ofInt]
  have h : |∑ b : Fin 8, part m c b j| ≤ ∑ b : Fin 8, (2 : ℤ) ^ 23 :=
    (Finset.abs_sum_le_sum_abs _ _).trans (Finset.sum_le_sum fun b _ => part_small m c b j)
  have hs : ∑ _b : Fin 8, (2 : ℤ) ^ 23 = 2 ^ 26 := by decide
  rw [hs, abs_le] at h
  exact Int.bmod_eq_of_le (by omega) (by omega)

/-- An element of a slab is an element of its device's block. -/
theorem slab_elem (d : Dev nD) (o : Fin 8) (i k : Fin 512) :
    slabOf m d o (ix2 i k) = m ((d : Thread nD τ).loc main_arg0) (ix2 ⟨512 * o.val + i.val, by omega⟩ k) := by
  unfold slabOf
  rw [xAt_is]
  refine congrArg (m ((d : Thread nD τ).loc main_arg0)) (funext fun a => Fin.ext ?_)
  fin_cases a
  · exact congrArg (512 * o.val + ·) (Nat.one_mul i.val)
  · exact (Nat.zero_add _).trans (Nat.one_mul k.val)

/-- An element of a slab's rows is an element of the weights. -/
theorem rows_elem (c : Dev nD) (o : Fin 8) (k : Fin 512) (j : Fin 2048) :
    rowsOf m c o (ix2 k j) = m ((c : Thread nD τ).loc main_arg1) (ix2 ⟨512 * o.val + k.val, by omega⟩ j) := by
  unfold rowsOf
  rw [wAt_is]
  refine congrArg (m ((c : Thread nD τ).loc main_arg1)) (funext fun a => Fin.ext ?_)
  fin_cases a
  · exact congrArg (512 * o.val + ·) (Nat.one_mul k.val)
  · exact (Nat.zero_add _).trans (Nat.one_mul j.val)

/-- A product of a slab, written out. -/
theorem part_sum (c b : Dev nD) (i : Fin 512) (j : Fin 2048) :
    part m c b (ix2 i j) = ∑ k : Fin 512, ((slabOf m b c (ix2 i k) : BitVec 8)).toInt * ((rowsOf m c b (ix2 k j) : BitVec 8)).toInt := by
  unfold part dotI8
  rw [DotDims.sum_contr₁ _ (a := 1) rfl (K := 512) rfl]
  refine Finset.sum_congr rfl fun k _ => ?_
  congr 3
  · funext a
    fin_cases a <;> rfl
  · funext a
    fin_cases a <;> rfl

end Cert.Kernel.Swap

end
-- ==== Proof.RefValue.lean ====
/-
# What the reference computes, over the reals

At row `r` and column `j` the reference holds the integer product of the row with the column, times the product of
the two scales: casting an int8 word to float32 gives its integer, and sums and products of integers stay integers.
-/
module

public import proofs.«01_k».proof.Proof.Gen.ReferenceIdeal.Run
public import Idealize.ShloMosaic.PureOps.Ideal.Laws
public import Idealize.ShloMosaic.Lib.Pointwise
public import Idealize.ShloMosaic.Lib.Pointwise.Contract

@[expose] public section

noncomputable section

namespace Cert.Reference

open Cert.ReferenceIdeal
open Idealize.ShloMosaic

/-- The product of the matrices, scaled, as the reference computes it. -/
def refOf (X : Vec Ideal S4096x4096 .i8) (W : Vec Ideal S4096x2048 .i8) (sx sw : Vec Ideal S1 .f32) : FVec Ideal S4096x2048 .f32 :=
  mulf (Host.dotGeneral dot_S4096x4096_S4096x2048_S4096x2048_1_0_0_1_n_n none
      (sitofp .f32 (extsi 32 X Gen.natLt_8_32)) (sitofp .f32 (extsi 32 W Gen.natLt_8_32)))
    (broadcastInDim S4096x2048 ![0, 1] Gen.bcast_S1x1_S4096x2048_0_1 (broadcastInDim S1x1 ![1] Gen.bcast_S1_S1x1_1 (mulf sx sw)))

/-- The integer that row `r` and column `j` multiply to. -/
def whole (X : Vec Ideal S4096x4096 .i8) (W : Vec Ideal S4096x2048 .i8) (r : Fin 4096) (j : Fin 2048) : ℤ :=
  ∑ k : Fin 4096, (X (ix2 r k) : BitVec 8).toInt * (W (ix2 k j) : BitVec 8).toInt

/-- The product of the two scales. -/
def scale (sx sw : Vec Ideal S1 .f32) : EReal := (sx (ix1 0) : EReal) * (sw (ix1 0) : EReal)

/-- A sum of integers, taken among the extended reals. -/
theorem coe_sum_int {ι : Type} (s : Finset ι) (f : ι → ℤ) : ∑ k ∈ s, (((f k : ℤ) : ℝ) : EReal) = (((∑ k ∈ s, f k : ℤ) : ℝ) : EReal) := by
  classical
  induction s using Finset.induction with
  | empty => simp
  | insert a s ha ih => rw [Finset.sum_insert ha, Finset.sum_insert ha, ih, Int.cast_add, EReal.coe_add]

/-- An int8 word cast to float32 through int32 is its integer. -/
theorem cast_word {s : Shape} (X : IVec s 8) (i : s.Idx) :
    (sitofp .f32 (extsi 32 X Gen.natLt_8_32) : FVec Ideal s .f32) i = (((X i).toInt : ℝ) : EReal) := by
  have h : ((X i).signExtend 32).toInt = (X i).toInt := BitVec.toInt_signExtend_of_le (by decide)
  exact congrArg (fun z : ℤ => ((z : ℝ) : EReal)) h

/-- The reference, element by element. -/
theorem ref_elem (X : Vec Ideal S4096x4096 .i8) (W : Vec Ideal S4096x2048 .i8) (sx sw : Vec Ideal S1 .f32) (r : Fin 4096) (j : Fin 2048) :
    refOf X W sx sw (ix2 r j) = (((whole X W r j : ℤ) : ℝ) : EReal) * scale sx sw := by
  unfold refOf whole scale
  refine congrArg₂ (fun a b : EReal => a * b) ?_ ?_
  · simp only [Host.dotGeneral]
    rw [Ideal.dotGeneral_apply, DotDims.sum_contr₁ _ (a := 1) rfl (K := 4096) rfl, ← coe_sum_int]
    refine Finset.sum_congr rfl fun k _ => ?_
    rw [cast_word, cast_word, Int.cast_mul, EReal.coe_mul]
    congr 5
    · congr 1
      funext a
      fin_cases a <;> rfl
    · congr 1
      funext a
      fin_cases a <;> rfl
  · have one : ∀ i : S1.Idx, i = ix1 0 := fun i => (ix1_eta i).symm.trans (congrArg ix1 (Subsingleton.elim (α := Fin 1) _ _))
    exact congrArg (mulf sx sw : FVec Ideal S1 .f32) (one _)

end Cert.Reference

end
-- ==== Proof.Equation.lean ====
/-
# The kernel's matrix is the reference's

Each device's sum over the eight slabs is the sum over all 4096 columns of its rows, cut into eight stretches of
512: the integers agree, and the scales are applied alike.
-/
module

public import proofs.«01_k».proof.Proof.BlockValue
public import proofs.«01_k».proof.Proof.RefValue
public import Idealize.ShloMosaic.Lib.Pointwise.Sums

@[expose] public section

noncomputable section

namespace Cert.Equation

open Cert.Kernel Cert.Kernel.Swap Cert.Reference
open Idealize.ShloMosaic Idealize.ShloMosaic.TcCoe

variable (m : (ℓ : Loc nD τ sig) → Buf (Elt Ideal) ℓ)

/-- A device's stored element is its integer, scaled. -/
theorem out_elem (c : Dev nD) (j : S512x2048.Idx) :
    outAt m c j = (((∑ b : Fin 8, part m c b j : ℤ) : ℝ) : EReal)
      * scale (m ((c : Thread nD τ).loc main_arg2)) (m ((c : Thread nD τ).loc main_arg3)) := by
  unfold scale
  have first : (fun a => ⟨0, by revert a; decide⟩ : S1.Idx) = ix1 0 := funext fun a => by fin_cases a; rfl
  rw [← sum_read, ← sxAt_is m c, ← swAt_is m c, ← first]
  rfl

/-- The sum of the device's products is the whole row of the product, given how `x` is cut and that the weights are
    everyone's. -/
theorem parts_whole (X : Vec Ideal Cert.ReferenceIdeal.S4096x4096 .i8) (W : Vec Ideal Cert.ReferenceIdeal.S4096x2048 .i8)
    (hX : ∀ c : Dev nD, m ((c : Thread nD τ).loc main_arg0) = Layout.block ⟨2, ![4096, 512]⟩ ⟨2, ![4096, 4096]⟩ 1 8 c X)
    (hW : ∀ c : Dev nD, m ((c : Thread nD τ).loc main_arg1) = W)
    (c : Dev nD) (i : Fin 512) (j : Fin 2048) :
    (∑ b : Fin 8, part m c b (ix2 i j)) = whole X W ⟨c.val * 512 + i.val, by have : c.val < 8 := c.isLt; omega⟩ j := by
  unfold whole
  rw [Fin.sum_univ_tiles 8 512 rfl]
  refine Finset.sum_congr rfl fun b _ => ?_
  rw [part_sum]
  refine Finset.sum_congr rfl fun k _ => ?_
  rw [slab_elem, rows_elem, hX, hW, Layout.block_apply]
  refine congrArg₂ (fun x w : BitVec 8 => x.toInt * w.toInt) (congrArg X (funext fun a => Fin.ext ?_)) (congrArg W (funext fun a => Fin.ext ?_))
  · fin_cases a
    · exact congrArg (· + i.val) (Nat.mul_comm 512 c.val)
    · rfl
  · fin_cases a
    · exact congrArg (· + k.val) (Nat.mul_comm 512 b.val)
    · rfl

/-- Device `c` stores block `c` of the reference's rows. -/
theorem out_block (X : Vec Ideal Cert.ReferenceIdeal.S4096x4096 .i8) (W : Vec Ideal Cert.ReferenceIdeal.S4096x2048 .i8)
    (sx sw : Vec Ideal Cert.ReferenceIdeal.S1 .f32)
    (hX : ∀ c : Dev nD, m ((c : Thread nD τ).loc main_arg0) = Layout.block ⟨2, ![4096, 512]⟩ ⟨2, ![4096, 4096]⟩ 1 8 c X)
    (hW : ∀ c : Dev nD, m ((c : Thread nD τ).loc main_arg1) = W)
    (hsx : ∀ c : Dev nD, m ((c : Thread nD τ).loc main_arg2) = sx) (hsw : ∀ c : Dev nD, m ((c : Thread nD τ).loc main_arg3) = sw)
    (c : Dev nD) : outAt m c = Layout.block ⟨2, ![512, 2048]⟩ ⟨2, ![4096, 2048]⟩ 0 8 c (refOf X W sx sw) := by
  funext y
  obtain ⟨i, j, rfl⟩ : ∃ (i : Fin 512) (j : Fin 2048), y = ix2 i j := ⟨y 0, y 1, eq_ix2 y⟩
  have hidx : ((by decide : Layout.Tiles ⟨2, ![512, 2048]⟩ ⟨2, ![4096, 2048]⟩ 0 8).idx c (ix2 i j))
      = ix2 ⟨c.val * 512 + i.val, by have : c.val < 8 := c.isLt; omega⟩ j := funext fun a => Fin.ext (by fin_cases a <;> rfl)
  rw [out_elem, parts_whole m X W hX hW, hsx, hsw]
  exact (ref_elem X W sx sw _ j).symm.trans (congrArg (refOf X W sx sw) hidx.symm)

end Cert.Equation

end
-- ==== Proof.lean ====
/-
# The claims

The kernel and its idealization run and leave their arguments, with every counter at zero; so does the reference.
Over the reals the kernel's blocks are the reference's matrix.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The kernel runs, keeps its arguments and leaves every counter at zero. -/
theorem frame_kernel : Cert.quiescent_Kernel := fun m g _ =>
  (θ_run Cert.Kernel.defs _ _).mono (fun _ h => ⟨fun c => (h.1 c).2, h.2⟩) (Cert.Kernel.Swap.run_leaves (F := Bits) m g)

/-- So does its idealization. -/
theorem frame_ideal : Cert.quiescent_KernelIdeal := fun m g _ =>
  (θ_run Cert.KernelIdeal.defs _ _).mono (fun _ h => ⟨fun c => (h.1 c).2, h.2⟩) (Cert.Kernel.Swap.run_leaves_ideal (F := Ideal) m g)

/-- So does the reference, which has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the reals, device `c` stores block `c` of the reference's matrix. -/
theorem equal : Cert.algebraic_KernelIdeal_ReferenceIdeal := fun m g m' g' _ hin =>
  ⟨Cert.Reference.refOf (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)),
    (θ_run Cert.KernelIdeal.defs _ _).mono
      (fun _ h c => ⟨(h.1 c).1.trans (Cert.Equation.out_block m _ _ _ _ (fun d => (hin d).1) (fun d => (hin d).2.1) (fun d => (hin d).2.2.1)
        (fun d => (hin d).2.2.2) c), (h.1 c).2⟩)
      (Cert.Kernel.Swap.run_leaves_ideal (F := Ideal) m g),
    (θ_run Cert.ReferenceIdeal.defs _ _).mono (fun _ h => h 0) (Cert.ReferenceIdeal.Value.run (F := Ideal) m' g')⟩

/-- The claims together. -/
theorem claim : Cert.Claim :=
  ⟨Cert.Kernel.Gen.facts, Cert.KernelIdeal.Gen.facts, Cert.ReferenceIdeal.Gen.facts,
    frame_kernel, frame_ideal, frame_reference, trivial, equal⟩

end Cert.Proof

end
